-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v15_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v15_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x384x30x96 : Shape := ⟨4, ![5, 384, 30, 96]⟩
abbrev S5x30 : Shape := ⟨2, ![5, 30]⟩
abbrev S5x384x30 : Shape := ⟨3, ![5, 384, 30]⟩
abbrev S5x384 : Shape := ⟨2, ![5, 384]⟩
abbrev S1800x3x16x128 : Shape := ⟨4, ![1800, 3, 16, 128]⟩
abbrev S_ : Shape := ⟨0, ![]⟩

class Facts : Prop where
  bitsLt_bf16_f32 : FTy.bits .bf16 < FTy.bits .f32
  bcast_S_S5x384x30x96 : S_.BroadcastsInDim S5x384x30x96 (![] : Fin 0 → Fin S5x384x30x96.rank)
  bcast_S_S5x30 : S_.BroadcastsInDim S5x30 (![] : Fin 0 → Fin S5x30.rank)
  bcast_S_S5x384x30 : S_.BroadcastsInDim S5x384x30 (![] : Fin 0 → Fin S5x384x30.rank)
  bcast_S_S5x384 : S_.BroadcastsInDim S5x384 (![] : Fin 0 → Fin S5x384.rank)

variable [Facts]

def fn_part2 {F : FTy → Type} [FloatOps F] (main_arg7 : FVec F S5x384x30 .f32) (main_arg9 : FVec F S5x384 .f32) (main_v5 : IVec S5x384x30x96 1) (main_v10 : IVec S5x384x30x96 1) (main_v15 : IVec S5x384x30x96 1) (main_v23 : IVec S5x384x30x96 1) (main_v26 : IVec S5x30 1) (main_v29 : IVec S5x30 1) (main_v32 : IVec S5x30 1) (main_v33 : FVec F S5x384x30x96 .f32) (main_v34 : FVec F S5x384x30x96 .f32) : IVec S5x384x30x96 1 × IVec S5x384x30x96 1 × IVec S5x384x30x96 1 × IVec S5x384x30x96 1 × IVec S5x30 1 × IVec S5x30 1 × IVec S5x30 1 × IVec S5x384x30x96 1 × IVec S5x384x30 1 × IVec S5x384 1 :=
  let main_v35 : IVec S5x384x30x96 1 := cmpf .olt main_v33 main_v34
  let main_v36 : FVec F S5x384x30 .f32 := Host.absf main_arg7
  let main_cst_11 : FVec F S_ .f32 := constant S_ .f32 0x7F800000#32
  let main_v37 : FVec F S5x384x30 .f32 := broadcastInDim S5x384x30 ![] bcast_S_S5x384x30 main_cst_11
  let main_v38 : IVec S5x384x30 1 := cmpf .olt main_v36 main_v37
  let main_v39 : FVec F S5x384 .f32 := Host.absf main_arg9
  let main_cst_12 : FVec F S_ .f32 := constant S_ .f32 0x7F800000#32
  let main_v40 : FVec F S5x384 .f32 := broadcastInDim S5x384 ![] bcast_S_S5x384 main_cst_12
  let main_v41 : IVec S5x384 1 := cmpf .olt main_v39 main_v40
  (main_v5, main_v10, main_v15, main_v23, main_v26, main_v29, main_v32, main_v35, main_v38, main_v41)

def fn_part1 {F : FTy → Type} [FloatOps F] (main_arg1 : FVec F S5x30 .f32) (main_arg3 : FVec F S5x30 .f32) (main_arg5 : FVec F S5x30 .f32) (main_arg7 : FVec F S5x384x30 .f32) (main_arg8 : IVec S5x384x30x96 8) (main_arg9 : FVec F S5x384 .f32) (main_v0 : FVec F S5x384x30x96 .f32) (main_v5 : IVec S5x384x30x96 1) (main_v10 : IVec S5x384x30x96 1) (main_v15 : IVec S5x384x30x96 1) (main_v16 : IVec S5x384x30x96 8) : IVec S5x384x30x96 1 × IVec S5x384x30x96 1 × IVec S5x384x30x96 1 × IVec S5x384x30x96 1 × IVec S5x30 1 × IVec S5x30 1 × IVec S5x30 1 × IVec S5x384x30x96 1 × IVec S5x384x30 1 × IVec S5x384 1 :=
  let main_v17 : IVec S5x384x30x96 1 := cmpi .ult main_arg8 main_v16
  let main_c_6 : IVec S_ 8 := constantI S_ 8 128#8
  let main_v18 : IVec S5x384x30x96 8 := broadcastInDim S5x384x30x96 ![] bcast_S_S5x384x30x96 main_c_6
  let main_v19 : IVec S5x384x30x96 1 := cmpi .uge main_arg8 main_v18
  let main_c_7 : IVec S_ 8 := constantI S_ 8 252#8
  let main_v20 : IVec S5x384x30x96 8 := broadcastInDim S5x384x30x96 ![] bcast_S_S5x384x30x96 main_c_7
  let main_v21 : IVec S5x384x30x96 1 := cmpi .ult main_arg8 main_v20
  let main_v22 : IVec S5x384x30x96 1 := andi main_v19 main_v21
  let main_v23 : IVec S5x384x30x96 1 := ori main_v17 main_v22
  let main_v24 : FVec F S5x30 .f32 := Host.absf main_arg1
  let main_cst : FVec F S_ .f32 := constant S_ .f32 0x7F800000#32
  let main_v25 : FVec F S5x30 .f32 := broadcastInDim S5x30 ![] bcast_S_S5x30 main_cst
  let main_v26 : IVec S5x30 1 := cmpf .olt main_v24 main_v25
  let main_v27 : FVec F S5x30 .f32 := Host.absf main_arg3
  let main_cst_8 : FVec F S_ .f32 := constant S_ .f32 0x7F800000#32
  let main_v28 : FVec F S5x30 .f32 := broadcastInDim S5x30 ![] bcast_S_S5x30 main_cst_8
  let main_v29 : IVec S5x30 1 := cmpf .olt main_v27 main_v28
  let main_v30 : FVec F S5x30 .f32 := Host.absf main_arg5
  let main_cst_9 : FVec F S_ .f32 := constant S_ .f32 0x7F800000#32
  let main_v31 : FVec F S5x30 .f32 := broadcastInDim S5x30 ![] bcast_S_S5x30 main_cst_9
  let main_v32 : IVec S5x30 1 := cmpf .olt main_v30 main_v31
  let main_v33 : FVec F S5x384x30x96 .f32 := Host.absf main_v0
  let main_cst_10 : FVec F S_ .f32 := constant S_ .f32 0x7F800000#32
  let main_v34 : FVec F S5x384x30x96 .f32 := broadcastInDim S5x384x30x96 ![] bcast_S_S5x384x30x96 main_cst_10
  fn_part2 (F := F) main_arg7 main_arg9 main_v5 main_v10 main_v15 main_v23 main_v26 main_v29 main_v32 main_v33 main_v34

def fn {F : FTy → Type} [FloatOps F] (main_arg0 : IVec S5x384x30x96 8) (main_arg1 : FVec F S5x30 .f32) (main_arg2 : IVec S5x384x30x96 8) (main_arg3 : FVec F S5x30 .f32) (main_arg4 : IVec S5x384x30x96 8) (main_arg5 : FVec F S5x30 .f32) (main_arg6 : FVec F S5x384x30x96 .bf16) (main_arg7 : FVec F S5x384x30 .f32) (main_arg8 : IVec S5x384x30x96 8) (main_arg9 : FVec F S5x384 .f32) (main_arg10 : IVec S1800x3x16x128 32) : IVec S5x384x30x96 1 × IVec S5x384x30x96 1 × IVec S5x384x30x96 1 × IVec S5x384x30x96 1 × IVec S5x30 1 × IVec S5x30 1 × IVec S5x30 1 × IVec S5x384x30x96 1 × IVec S5x384x30 1 × IVec S5x384 1 :=
  let main_v0 : FVec F S5x384x30x96 .f32 := (extf .f32 · bitsLt_bf16_f32) main_arg6
  let main_c : IVec S_ 8 := constantI S_ 8 127#8
  let main_v1 : IVec S5x384x30x96 8 := broadcastInDim S5x384x30x96 ![] bcast_S_S5x384x30x96 main_c
  let main_v2 : IVec S5x384x30x96 1 := cmpi .ne main_arg0 main_v1
  let main_c_0 : IVec S_ 8 := constantI S_ 8 255#8
  let main_v3 : IVec S5x384x30x96 8 := broadcastInDim S5x384x30x96 ![] bcast_S_S5x384x30x96 main_c_0
  let main_v4 : IVec S5x384x30x96 1 := cmpi .ne main_arg0 main_v3
  let main_v5 : IVec S5x384x30x96 1 := andi main_v2 main_v4
  let main_c_1 : IVec S_ 8 := constantI S_ 8 127#8
  let main_v6 : IVec S5x384x30x96 8 := broadcastInDim S5x384x30x96 ![] bcast_S_S5x384x30x96 main_c_1
  let main_v7 : IVec S5x384x30x96 1 := cmpi .ne main_arg2 main_v6
  let main_c_2 : IVec S_ 8 := constantI S_ 8 255#8
  let main_v8 : IVec S5x384x30x96 8 := broadcastInDim S5x384x30x96 ![] bcast_S_S5x384x30x96 main_c_2
  let main_v9 : IVec S5x384x30x96 1 := cmpi .ne main_arg2 main_v8
  let main_v10 : IVec S5x384x30x96 1 := andi main_v7 main_v9
  let main_c_3 : IVec S_ 8 := constantI S_ 8 127#8
  let main_v11 : IVec S5x384x30x96 8 := broadcastInDim S5x384x30x96 ![] bcast_S_S5x384x30x96 main_c_3
  let main_v12 : IVec S5x384x30x96 1 := cmpi .ne main_arg4 main_v11
  let main_c_4 : IVec S_ 8 := constantI S_ 8 255#8
  let main_v13 : IVec S5x384x30x96 8 := broadcastInDim S5x384x30x96 ![] bcast_S_S5x384x30x96 main_c_4
  let main_v14 : IVec S5x384x30x96 1 := cmpi .ne main_arg4 main_v13
  let main_v15 : IVec S5x384x30x96 1 := andi main_v12 main_v14
  let main_c_5 : IVec S_ 8 := constantI S_ 8 124#8
  let main_v16 : IVec S5x384x30x96 8 := broadcastInDim S5x384x30x96 ![] bcast_S_S5x384x30x96 main_c_5
  fn_part1 (F := F) main_arg1 main_arg3 main_arg5 main_arg7 main_arg8 main_arg9 main_v0 main_v5 main_v10 main_v15 main_v16
-- ==== Kernel.lean ====
abbrev S5x384x30x96 : Shape := ⟨4, ![5, 384, 30, 96]⟩
abbrev S5x30 : Shape := ⟨2, ![5, 30]⟩
abbrev S5x384x30 : Shape := ⟨3, ![5, 384, 30]⟩
abbrev S5x384 : Shape := ⟨2, ![5, 384]⟩
abbrev S1800x3x16x128 : Shape := ⟨4, ![1800, 3, 16, 128]⟩
abbrev S5x30x96x384 : Shape := ⟨4, ![5, 30, 96, 384]⟩
abbrev S5x30x384 : Shape := ⟨3, ![5, 30, 384]⟩
abbrev S5x1x384 : Shape := ⟨3, ![5, 1, 384]⟩
abbrev S5x30x1x384 : Shape := ⟨4, ![5, 30, 1, 384]⟩
abbrev S5x30x2x384 : Shape := ⟨4, ![5, 30, 2, 384]⟩
abbrev S1800x3x32x128 : Shape := ⟨4, ![1800, 3, 32, 128]⟩
abbrev S1x1x96x384 : Shape := ⟨4, ![1, 1, 96, 384]⟩
abbrev S1x1x2x384 : Shape := ⟨4, ![1, 1, 2, 384]⟩
abbrev S12x3x16x128 : Shape := ⟨4, ![12, 3, 16, 128]⟩
abbrev S12x3x32x128 : Shape := ⟨4, ![12, 3, 32, 128]⟩
abbrev S1x1 : Shape := ⟨2, ![1, 1]⟩
abbrev S96x384 : Shape := ⟨2, ![96, 384]⟩
abbrev S384x96 : Shape := ⟨2, ![384, 96]⟩
abbrev S2x384 : Shape := ⟨2, ![2, 384]⟩
abbrev S1x384 : Shape := ⟨2, ![1, 384]⟩
abbrev S384 : Shape := ⟨1, ![384]⟩
abbrev S8x384 : Shape := ⟨2, ![8, 384]⟩
abbrev S384x8 : Shape := ⟨2, ![384, 8]⟩
abbrev S384x1 : Shape := ⟨2, ![384, 1]⟩
abbrev S12x1x16x128 : Shape := ⟨4, ![12, 1, 16, 128]⟩
abbrev S12x16x128 : Shape := ⟨3, ![12, 16, 128]⟩
abbrev S12x32x128 : Shape := ⟨3, ![12, 32, 128]⟩
abbrev S384x128 : Shape := ⟨2, ![384, 128]⟩
abbrev S384x384 : Shape := ⟨2, ![384, 384]⟩
abbrev S12x1x32x128 : Shape := ⟨4, ![12, 1, 32, 128]⟩

abbrev nBuf : Space → Nat
  | .hbm => 33
  | .vmem => 22
  | .smem => 3
  | _ => 0

abbrev bufTy : (tb : Table) → Fin (tcTables nBuf tb) → BufTy
  | .hbm, ⟨0, _⟩ => ⟨S5x384x30x96, .i8⟩
  | .hbm, ⟨1, _⟩ => ⟨S5x30, .f32⟩
  | .hbm, ⟨2, _⟩ => ⟨S5x384x30x96, .i8⟩
  | .hbm, ⟨3, _⟩ => ⟨S5x30, .f32⟩
  | .hbm, ⟨4, _⟩ => ⟨S5x384x30x96, .i8⟩
  | .hbm, ⟨5, _⟩ => ⟨S5x30, .f32⟩
  | .hbm, ⟨6, _⟩ => ⟨S5x384x30x96, .bf16⟩
  | .hbm, ⟨7, _⟩ => ⟨S5x384x30, .f32⟩
  | .hbm, ⟨8, _⟩ => ⟨S5x384x30x96, .i8⟩
  | .hbm, ⟨9, _⟩ => ⟨S5x384, .f32⟩
  | .hbm, ⟨10, _⟩ => ⟨S1800x3x16x128, .i32⟩
  | .hbm, ⟨11, _⟩ => ⟨S5x384x30x96, .fp8e4m3⟩
  | .hbm, ⟨12, _⟩ => ⟨S5x384x30x96, .fp8e4m3⟩
  | .hbm, ⟨13, _⟩ => ⟨S5x384x30x96, .fp8e4m3⟩
  | .hbm, ⟨14, _⟩ => ⟨S5x384x30x96, .fp8e5m2⟩
  | .hbm, ⟨15, _⟩ => ⟨S5x30x96x384, .fp8e4m3⟩
  | .hbm, ⟨16, _⟩ => ⟨S5x30x96x384, .fp8e4m3⟩
  | .hbm, ⟨17, _⟩ => ⟨S5x30x96x384, .fp8e4m3⟩
  | .hbm, ⟨18, _⟩ => ⟨S5x30x96x384, .fp8e5m2⟩
  | .hbm, ⟨19, _⟩ => ⟨S5x30x96x384, .bf16⟩
  | .hbm, ⟨20, _⟩ => ⟨S5x30x384, .f32⟩
  | .hbm, ⟨21, _⟩ => ⟨S5x1x384, .f32⟩
  | .hbm, ⟨22, _⟩ => ⟨S5x30x384, .f32⟩
  | .hbm, ⟨23, _⟩ => ⟨S5x30x1x384, .f32⟩
  | .hbm, ⟨24, _⟩ => ⟨S5x30x1x384, .f32⟩
  | .hbm, ⟨25, _⟩ => ⟨S5x30x2x384, .f32⟩
  | .hbm, ⟨26, _⟩ => ⟨S1800x3x32x128, .f32⟩
  | .hbm, ⟨27, _⟩ => ⟨S5x30x96x384, .bf16⟩
  | .hbm, ⟨28, _⟩ => ⟨S5x30x96x384, .bf16⟩
  | .hbm, ⟨29, _⟩ => ⟨S5x30x96x384, .bf16⟩
  | .hbm, ⟨30, _⟩ => ⟨S5x384x30x96, .bf16⟩
  | .hbm, ⟨31, _⟩ => ⟨S5x384x30x96, .bf16⟩
  | .hbm, ⟨32, _⟩ => ⟨S5x384x30x96, .bf16⟩
  | .local _ .vmem, ⟨0, _⟩ => ⟨S1x1x96x384, .fp8e4m3⟩
  | .local _ .vmem, ⟨1, _⟩ => ⟨S1x1x96x384, .fp8e4m3⟩
  | .local _ .vmem, ⟨2, _⟩ => ⟨S1x1x96x384, .fp8e4m3⟩
  | .local _ .vmem, ⟨3, _⟩ => ⟨S1x1x96x384, .fp8e4m3⟩
  | .local _ .vmem, ⟨4, _⟩ => ⟨S1x1x96x384, .fp8e4m3⟩
  | .local _ .vmem, ⟨5, _⟩ => ⟨S1x1x96x384, .fp8e4m3⟩
  | .local _ .vmem, ⟨6, _⟩ => ⟨S1x1x96x384, .fp8e5m2⟩
  | .local _ .vmem, ⟨7, _⟩ => ⟨S1x1x96x384, .fp8e5m2⟩
  | .local _ .vmem, ⟨8, _⟩ => ⟨S1x1x96x384, .bf16⟩
  | .local _ .vmem, ⟨9, _⟩ => ⟨S1x1x96x384, .bf16⟩
  | .local _ .vmem, ⟨10, _⟩ => ⟨S1x1x2x384, .f32⟩
  | .local _ .vmem, ⟨11, _⟩ => ⟨S1x1x2x384, .f32⟩
  | .local _ .vmem, ⟨12, _⟩ => ⟨S12x3x16x128, .i32⟩
  | .local _ .vmem, ⟨13, _⟩ => ⟨S12x3x16x128, .i32⟩
  | .local _ .vmem, ⟨14, _⟩ => ⟨S12x3x32x128, .f32⟩
  | .local _ .vmem, ⟨15, _⟩ => ⟨S12x3x32x128, .f32⟩
  | .local _ .vmem, ⟨16, _⟩ => ⟨S1x1x96x384, .bf16⟩
  | .local _ .vmem, ⟨17, _⟩ => ⟨S1x1x96x384, .bf16⟩
  | .local _ .vmem, ⟨18, _⟩ => ⟨S1x1x96x384, .bf16⟩
  | .local _ .vmem, ⟨19, _⟩ => ⟨S1x1x96x384, .bf16⟩
  | .local _ .vmem, ⟨20, _⟩ => ⟨S1x1x96x384, .bf16⟩
  | .local _ .vmem, ⟨21, _⟩ => ⟨S1x1x96x384, .bf16⟩
  | .local _ .smem, ⟨0, _⟩ => ⟨S5x30, .f32⟩
  | .local _ .smem, ⟨1, _⟩ => ⟨S5x30, .f32⟩
  | .local _ .smem, ⟨2, _⟩ => ⟨S5x30, .f32⟩
  | _, _ => ⟨S5x384x30x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![30, 5], ![false, false]⟩

def k0_off1 (i : grid0.Coords) : Fin 2 → Nat :=
  let arg1 : BitVec 32 := BitVec.ofNat 32 (i 1).val
  let v0 : Index := Scalar.indexCast arg1
  let arg0 : BitVec 32 := BitVec.ofNat 32 (i 0).val
  let v1 : Index := Scalar.indexCast arg0
  ![v0.toNat, v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S5x30 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S5x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S5x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x96x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x96x384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x96x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x96x384 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x96x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S12x3x16x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S12x3x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x96x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x96x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x96x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S5x384x30x96 : Shape := ⟨4, ![5, 384, 30, 96]⟩
abbrev S5x30 : Shape := ⟨2, ![5, 30]⟩
abbrev S5x384x30 : Shape := ⟨3, ![5, 384, 30]⟩
abbrev S5x384 : Shape := ⟨2, ![5, 384]⟩
abbrev S1800x3x16x128 : Shape := ⟨4, ![1800, 3, 16, 128]⟩
abbrev S30x5x12x3x16x128 : Shape := ⟨6, ![30, 5, 12, 3, 16, 128]⟩
abbrev S_ : Shape := ⟨0, ![]⟩
abbrev S30x5x12x1x3x16x128 : Shape := ⟨7, ![30, 5, 12, 1, 3, 16, 128]⟩
abbrev S30x5x12x2x3x16x128 : Shape := ⟨7, ![30, 5, 12, 2, 3, 16, 128]⟩
abbrev S5x30x12x2x16x3x128 : Shape := ⟨7, ![5, 30, 12, 2, 16, 3, 128]⟩
abbrev S5x30x384x384 : Shape := ⟨4, ![5, 30, 384, 384]⟩
abbrev S5x1x384x1 : Shape := ⟨4, ![5, 1, 384, 1]⟩
abbrev S5x30x384 : Shape := ⟨3, ![5, 30, 384]⟩
abbrev S5x30x384x1 : Shape := ⟨4, ![5, 30, 384, 1]⟩
abbrev S5x30x1x1 : Shape := ⟨4, ![5, 30, 1, 1]⟩
abbrev S5x384x1x1 : Shape := ⟨4, ![5, 384, 1, 1]⟩
abbrev S5x1x30x1 : Shape := ⟨4, ![5, 1, 30, 1]⟩
abbrev S5x30x96x384 : Shape := ⟨4, ![5, 30, 96, 384]⟩
abbrev S5x30x12x32x3x128 : Shape := ⟨6, ![5, 30, 12, 32, 3, 128]⟩
abbrev S30x5x12x3x32x128 : Shape := ⟨6, ![30, 5, 12, 3, 32, 128]⟩
abbrev S1800x3x32x128 : Shape := ⟨4, ![1800, 3, 32, 128]⟩

abbrev nBuf : Space → Nat
  | .hbm => 106
  | .vmem => 8
  | .smem => 0
  | _ => 0

abbrev bufTy : (tb : Table) → Fin (tcTables nBuf tb) → BufTy
  | .hbm, ⟨0, _⟩ => ⟨S5x384x30x96, .i8⟩
  | .hbm, ⟨1, _⟩ => ⟨S5x30, .f32⟩
  | .hbm, ⟨2, _⟩ => ⟨S5x384x30x96, .i8⟩
  | .hbm, ⟨3, _⟩ => ⟨S5x30, .f32⟩
  | .hbm, ⟨4, _⟩ => ⟨S5x384x30x96, .i8⟩
  | .hbm, ⟨5, _⟩ => ⟨S5x30, .f32⟩
  | .hbm, ⟨6, _⟩ => ⟨S5x384x30x96, .bf16⟩
  | .hbm, ⟨7, _⟩ => ⟨S5x384x30, .f32⟩
  | .hbm, ⟨8, _⟩ => ⟨S5x384x30x96, .i8⟩
  | .hbm, ⟨9, _⟩ => ⟨S5x384, .f32⟩
  | .hbm, ⟨10, _⟩ => ⟨S1800x3x16x128, .i32⟩
  | .hbm, ⟨11, _⟩ => ⟨S5x384x30x96, .fp8e4m3⟩
  | .hbm, ⟨12, _⟩ => ⟨S5x384x30x96, .fp8e4m3⟩
  | .hbm, ⟨13, _⟩ => ⟨S5x384x30x96, .fp8e4m3⟩
  | .hbm, ⟨14, _⟩ => ⟨S5x384x30x96, .fp8e5m2⟩
  | .hbm, ⟨15, _⟩ => ⟨S5x384x30x96, .f32⟩
  | .hbm, ⟨16, _⟩ => ⟨S5x384x30x96, .f32⟩
  | .hbm, ⟨17, _⟩ => ⟨S5x384x30x96, .f32⟩
  | .hbm, ⟨18, _⟩ => ⟨S5x384x30x96, .f32⟩
  | .hbm, ⟨19, _⟩ => ⟨S30x5x12x3x16x128, .i32⟩
  | .hbm, ⟨20, _⟩ => ⟨S_, .i32⟩
  | .hbm, ⟨21, _⟩ => ⟨S30x5x12x3x16x128, .i32⟩
  | .hbm, ⟨22, _⟩ => ⟨S30x5x12x3x16x128, .i32⟩
  | .hbm, ⟨23, _⟩ => ⟨S_, .i32⟩
  | .hbm, ⟨24, _⟩ => ⟨S30x5x12x3x16x128, .i32⟩
  | .hbm, ⟨25, _⟩ => ⟨S30x5x12x3x16x128, .i32⟩
  | .hbm, ⟨26, _⟩ => ⟨S30x5x12x1x3x16x128, .i32⟩
  | .hbm, ⟨27, _⟩ => ⟨S30x5x12x1x3x16x128, .i32⟩
  | .hbm, ⟨28, _⟩ => ⟨S30x5x12x2x3x16x128, .i32⟩
  | .hbm, ⟨29, _⟩ => ⟨S5x30x12x2x16x3x128, .i32⟩
  | .hbm, ⟨30, _⟩ => ⟨S5x30x384x384, .i32⟩
  | .hbm, ⟨31, _⟩ => ⟨S5x1x384x1, .f32⟩
  | .hbm, ⟨32, _⟩ => ⟨S5x30x384, .f32⟩
  | .hbm, ⟨33, _⟩ => ⟨S5x30x384x1, .f32⟩
  | .hbm, ⟨34, _⟩ => ⟨S5x30x1x1, .f32⟩
  | .hbm, ⟨35, _⟩ => ⟨S_, .f32⟩
  | .hbm, ⟨36, _⟩ => ⟨S5x30x1x1, .f32⟩
  | .hbm, ⟨37, _⟩ => ⟨S5x30x1x1, .f32⟩
  | .hbm, ⟨38, _⟩ => ⟨S5x30x1x1, .f32⟩
  | .hbm, ⟨39, _⟩ => ⟨S5x30x1x1, .f32⟩
  | .hbm, ⟨40, _⟩ => ⟨S5x30x384x384, .f32⟩
  | .hbm, ⟨41, _⟩ => ⟨S5x30x384x384, .f32⟩
  | .hbm, ⟨42, _⟩ => ⟨S5x30x384x384, .f32⟩
  | .hbm, ⟨43, _⟩ => ⟨S5x30x384x384, .f32⟩
  | .hbm, ⟨44, _⟩ => ⟨S5x30x384x384, .f32⟩
  | .hbm, ⟨45, _⟩ => ⟨S5x30x384x384, .f32⟩
  | .hbm, ⟨46, _⟩ => ⟨S5x30x1x1, .f32⟩
  | .hbm, ⟨47, _⟩ => ⟨S5x30x384x1, .f32⟩
  | .hbm, ⟨48, _⟩ => ⟨S5x30x384x1, .f32⟩
  | .hbm, ⟨49, _⟩ => ⟨S5x30x384x1, .f32⟩
  | .hbm, ⟨50, _⟩ => ⟨S5x30x384x384, .f32⟩
  | .hbm, ⟨51, _⟩ => ⟨S5x30x384x384, .f32⟩
  | .hbm, ⟨52, _⟩ => ⟨S5x30x384x384, .f32⟩
  | .hbm, ⟨53, _⟩ => ⟨S5x384x1x1, .f32⟩
  | .hbm, ⟨54, _⟩ => ⟨S5x384x30x96, .f32⟩
  | .hbm, ⟨55, _⟩ => ⟨S5x384x30x96, .f32⟩
  | .hbm, ⟨56, _⟩ => ⟨S5x384x30x96, .f32⟩
  | .hbm, ⟨57, _⟩ => ⟨S5x384x30x96, .f32⟩
  | .hbm, ⟨58, _⟩ => ⟨S_, .f32⟩
  | .hbm, ⟨59, _⟩ => ⟨S5x384x30, .f32⟩
  | .hbm, ⟨60, _⟩ => ⟨S5x30x384, .f32⟩
  | .hbm, ⟨61, _⟩ => ⟨S5x30x384x1, .f32⟩
  | .hbm, ⟨62, _⟩ => ⟨S5x30x384x384, .f32⟩
  | .hbm, ⟨63, _⟩ => ⟨S5x30x384x384, .f32⟩
  | .hbm, ⟨64, _⟩ => ⟨S5x30x384x384, .f32⟩
  | .hbm, ⟨65, _⟩ => ⟨S5x30x384x384, .bf16⟩
  | .hbm, ⟨66, _⟩ => ⟨S5x30x384x384, .f32⟩
  | .hbm, ⟨67, _⟩ => ⟨S5x30x384x384, .f32⟩
  | .hbm, ⟨68, _⟩ => ⟨S5x30x384x384, .f32⟩
  | .hbm, ⟨69, _⟩ => ⟨S5x30x384x384, .bf16⟩
  | .hbm, ⟨70, _⟩ => ⟨S5x30x384x384, .f32⟩
  | .hbm, ⟨71, _⟩ => ⟨S5x30x384x384, .f32⟩
  | .hbm, ⟨72, _⟩ => ⟨S_, .f32⟩
  | .hbm, ⟨73, _⟩ => ⟨S5x30, .f32⟩
  | .hbm, ⟨74, _⟩ => ⟨S5x30, .f32⟩
  | .hbm, ⟨75, _⟩ => ⟨S5x1x30x1, .f32⟩
  | .hbm, ⟨76, _⟩ => ⟨S5x30x384x384, .f32⟩
  | .hbm, ⟨77, _⟩ => ⟨S5x30x96x384, .f32⟩
  | .hbm, ⟨78, _⟩ => ⟨S5x384x30x96, .f32⟩
  | .hbm, ⟨79, _⟩ => ⟨S5x384x30x96, .f32⟩
  | .hbm, ⟨80, _⟩ => ⟨S5x384x30x96, .f32⟩
  | .hbm, ⟨81, _⟩ => ⟨S_, .f32⟩
  | .hbm, ⟨82, _⟩ => ⟨S5x30, .f32⟩
  | .hbm, ⟨83, _⟩ => ⟨S5x30, .f32⟩
  | .hbm, ⟨84, _⟩ => ⟨S5x1x30x1, .f32⟩
  | .hbm, ⟨85, _⟩ => ⟨S5x30x384x384, .f32⟩
  | .hbm, ⟨86, _⟩ => ⟨S5x30x96x384, .f32⟩
  | .hbm, ⟨87, _⟩ => ⟨S5x384x30x96, .f32⟩
  | .hbm, ⟨88, _⟩ => ⟨S5x384x30x96, .f32⟩
  | .hbm, ⟨89, _⟩ => ⟨S5x384x30x96, .f32⟩
  | .hbm, ⟨90, _⟩ => ⟨S5x30x384x384, .f32⟩
  | .hbm, ⟨91, _⟩ => ⟨S5x30x96x384, .f32⟩
  | .hbm, ⟨92, _⟩ => ⟨S5x384x30x96, .f32⟩
  | .hbm, ⟨93, _⟩ => ⟨S_, .i32⟩
  | .hbm, ⟨94, _⟩ => ⟨S5x30x384x384, .i32⟩
  | .hbm, ⟨95, _⟩ => ⟨S5x30x384x384, .i1⟩
  | .hbm, ⟨96, _⟩ => ⟨S_, .f32⟩
  | .hbm, ⟨97, _⟩ => ⟨S_, .f32⟩
  | .hbm, ⟨98, _⟩ => ⟨S5x30x384x384, .f32⟩
  | .hbm, ⟨99, _⟩ => ⟨S5x30x384x384, .f32⟩
  | .hbm, ⟨100, _⟩ => ⟨S5x30x12x32x3x128, .f32⟩
  | .hbm, ⟨101, _⟩ => ⟨S30x5x12x3x32x128, .f32⟩
  | .hbm, ⟨102, _⟩ => ⟨S1800x3x32x128, .f32⟩
  | .hbm, ⟨103, _⟩ => ⟨S5x384x30x96, .bf16⟩
  | .hbm, ⟨104, _⟩ => ⟨S5x384x30x96, .bf16⟩
  | .hbm, ⟨105, _⟩ => ⟨S5x384x30x96, .bf16⟩
  | .local _ .vmem, ⟨0, _⟩ => ⟨S5x384x30x96, .fp8e4m3⟩
  | .local _ .vmem, ⟨1, _⟩ => ⟨S5x384x30x96, .fp8e4m3⟩
  | .local _ .vmem, ⟨2, _⟩ => ⟨S5x384x30x96, .fp8e4m3⟩
  | .local _ .vmem, ⟨3, _⟩ => ⟨S5x384x30x96, .fp8e5m2⟩
  | .local _ .vmem, ⟨4, _⟩ => ⟨S5x384x30x96, .f32⟩
  | .local _ .vmem, ⟨5, _⟩ => ⟨S5x384x30x96, .f32⟩
  | .local _ .vmem, ⟨6, _⟩ => ⟨S5x384x30x96, .f32⟩
  | .local _ .vmem, ⟨7, _⟩ => ⟨S5x384x30x96, .f32⟩
  | _, _ => ⟨S5x384x30x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_2 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_3 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_4 : Ref sig .tc := ⟨.hbm, 93, rfl⟩
abbrev main_v73 : Ref sig .tc := ⟨.hbm, 94, rfl⟩
abbrev main_v74 : Ref sig .tc := ⟨.hbm, 95, rfl⟩
abbrev main_cst_5 : Ref sig .tc := ⟨.hbm, 96, rfl⟩
abbrev main_call0_v0 : Ref sig .tc := ⟨.hbm, 97, rfl⟩
abbrev main_call0_v1 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5x384x30x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x30x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x30x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384x30x96 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x384x30x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x384x30x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x384x30x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x384x30x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Head.lean ====
/- The mathematics of one head of one batch, over the extended reals: the gradients of block-sparse attention where an entry
   (i, j) counts `mult i j` times, and that they are finite where the operands are. -/
module

public import Idealize.ShloMosaic.Lib.Pointwise

@[expose] public section

noncomputable section

namespace Cert.Proof

open Idealize.ShloMosaic

/-- A number that is neither infinite: a real. -/
def IsReal (x : EReal) : Prop := ∃ r : ℝ, x = (r : EReal)

namespace IsReal

theorem zero : IsReal 0 := ⟨0, rfl⟩

theorem add {x y : EReal} : IsReal x → IsReal y → IsReal (x + y)
  | ⟨a, ha⟩, ⟨b, hb⟩ => ⟨a + b, by rw [ha, hb, EReal.coe_add]⟩

theorem sub {x y : EReal} : IsReal x → IsReal y → IsReal (x - y)
  | ⟨a, ha⟩, ⟨b, hb⟩ => ⟨a - b, by rw [ha, hb, EReal.coe_sub]⟩

theorem mul {x y : EReal} : IsReal x → IsReal y → IsReal (x * y)
  | ⟨a, ha⟩, ⟨b, hb⟩ => ⟨a * b, by rw [ha, hb, EReal.coe_mul]⟩

theorem exp {x : EReal} : IsReal x → IsReal (Ideal.exp x)
  | ⟨a, ha⟩ => ⟨Real.exp a, by rw [ha]; rfl⟩

theorem sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A real less itself is zero; an infinity less itself is not. -/
theorem sub_self {x : EReal} : IsReal x → x - x = 0
  | ⟨a, ha⟩ => by rw [ha, ← EReal.coe_sub, _root_.sub_self]; rfl

end IsReal

/-- The operands of one head of one batch, by row or column and by depth: the scales of q, k and v, the numbers that the codes
    of q, k, v and of the output's gradient `g` stand for, the output `o`, the row's log-sum-exp and gradient scale, and how
    often the entry (row, column) occurs. -/
structure Head where
  /-- q's scale. -/
  qs : EReal
  /-- k's scale. -/
  ks : EReal
  /-- v's scale. -/
  vs : EReal
  /-- q's codes, row by depth. -/
  q : Fin 384 → Fin 96 → EReal
  /-- k's codes, column by depth. -/
  k : Fin 384 → Fin 96 → EReal
  /-- v's codes, column by depth. -/
  v : Fin 384 → Fin 96 → EReal
  /-- The codes of the output's gradient, row by depth. -/
  g : Fin 384 → Fin 96 → EReal
  /-- The output, row by depth. -/
  o : Fin 384 → Fin 96 → EReal
  /-- The row's log-sum-exp. -/
  lse : Fin 384 → EReal
  /-- The row's scale of the output's gradient. -/
  gs : Fin 384 → EReal
  /-- How often the entry (row, column) occurs. -/
  mult : Fin 384 → Fin 384 → EReal

namespace Head

/-- The softmax scale, 96 to the power -1/2 as an f32. -/
def sm : EReal := Ideal.ofBits .f32 0x3DD105EC#32

variable (b : Head)

/-- The softmax probability of an entry. -/
def prob (i j : Fin 384) : EReal := Ideal.exp (sm * b.qs * b.ks * (∑ d, b.q i d * b.k j d) - b.lse i)

/-- The gradient of the probability. -/
def dprob (i j : Fin 384) : EReal := b.gs i * b.vs * ∑ d, b.g i d * b.v j d

/-- The row's sum of the output's gradient times the output. -/
def delta (i : Fin 384) : EReal := ∑ d, b.g i d * b.gs i * b.o i d

/-- The gradient of the score. -/
def ds (i j : Fin 384) : EReal := b.prob i j * (b.dprob i j - b.delta i)

/-- The gradient of the score where there is an entry, zero elsewhere. -/
def dense (i j : Fin 384) : EReal := if 0 < b.mult i j then b.ds i j else 0

/-- q's gradient, depth by row. -/
def dq (d : Fin 96) (i : Fin 384) : EReal := sm * b.ks * ∑ j, b.k j d * (b.mult i j * b.ds i j)

/-- k's gradient, depth by column. -/
def dk (d : Fin 96) (j : Fin 384) : EReal := sm * b.qs * ∑ i, b.q i d * (b.mult i j * b.ds i j)

/-- v's gradient, depth by column. -/
def dv (d : Fin 96) (j : Fin 384) : EReal := ∑ i, b.g i d * (b.mult i j * (b.prob i j * b.gs i))

/-- Every operand is finite, and an entry occurs zero times or more. -/
structure Finite : Prop where
  qs : IsReal b.qs
  ks : IsReal b.ks
  vs : IsReal b.vs
  q : ∀ i d, IsReal (b.q i d)
  k : ∀ i d, IsReal (b.k i d)
  v : ∀ i d, IsReal (b.v i d)
  g : ∀ i d, IsReal (b.g i d)
  o : ∀ i d, IsReal (b.o i d)
  lse : ∀ i, IsReal (b.lse i)
  gs : ∀ i, IsReal (b.gs i)
  mult : ∀ i j, IsReal (b.mult i j)
  mult_nonneg : ∀ i j, 0 ≤ b.mult i j

/-- The pattern of a float that is neither infinite nor a NaN denotes a real. -/
theorem _root_.Cert.Proof.ieee_real {e m w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The softmax scale is finite. -/
theorem sm_real : IsReal sm := ieee_real (e := 8) (m := 23) 0x3DD105EC#32 (by decide)

variable {b}

theorem Finite.prob (h : b.Finite) (i j : Fin 384) : IsReal (b.prob i j) :=
  (((sm_real.mul h.qs).mul h.ks).mul (IsReal.sum _ fun d => (h.q i d).mul (h.k j d))).sub (h.lse i) |>.exp

theorem Finite.dprob (h : b.Finite) (i j : Fin 384) : IsReal (b.dprob i j) :=
  ((h.gs i).mul h.vs).mul (IsReal.sum _ fun d => (h.g i d).mul (h.v j d))

theorem Finite.delta (h : b.Finite) (i : Fin 384) : IsReal (b.delta i) :=
  IsReal.sum _ fun d => ((h.g i d).mul (h.gs i)).mul (h.o i d)

theorem Finite.ds (h : b.Finite) (i j : Fin 384) : IsReal (b.ds i j) :=
  (h.prob i j).mul ((h.dprob i j).sub (h.delta i))

theorem Finite.dense (h : b.Finite) (i j : Fin 384) : IsReal (b.dense i j) := by
  unfold Head.dense
  split
  · exact h.ds i j
  · exact IsReal.zero

/-! ## What the body of the kernel computes, in its own order of operations -/

variable (b)

/-- The body's probability: zero where there is no entry. -/
def bodyProb (i j : Fin 384) : EReal :=
  if 0 < b.mult i j then Ideal.exp ((∑ d, b.q i d * b.k j d) * (sm * b.qs * b.ks) - b.lse i) else 0

/-- The body's gradient of the score. -/
def bodyDs (i j : Fin 384) : EReal :=
  b.bodyProb i j * ((∑ d, b.g i d * b.v j d) * (b.gs i * b.vs) - b.delta i)

theorem bodyProb_eq (i j : Fin 384) : b.bodyProb i j = if 0 < b.mult i j then b.prob i j else 0 := by
  unfold bodyProb Head.prob
  rw [mul_comm (∑ d, b.q i d * b.k j d)]

/-- The body's gradient of the score is the gradient where there is an entry, zero elsewhere. -/
theorem bodyDs_eq (i j : Fin 384) : b.bodyDs i j = b.dense i j := by
  unfold bodyDs Head.dense Head.ds Head.dprob
  rw [bodyProb_eq, mul_comm (∑ d, b.g i d * b.v j d)]
  split
  · rfl
  · exact zero_mul _

variable {b}

/-- Counted by the entries, what the mask leaves is the whole: there is nothing to count where there is no entry. -/
theorem mult_mask (h : b.Finite) (i j : Fin 384) (x : EReal) :
    b.mult i j * (if 0 < b.mult i j then x else 0) = b.mult i j * x := by
  split
  · rfl
  · next hn => rw [le_antisymm (not_lt.mp hn) (h.mult_nonneg i j), zero_mul, zero_mul]

theorem mult_dense (h : b.Finite) (i j : Fin 384) : b.mult i j * b.dense i j = b.mult i j * b.ds i j :=
  mult_mask h i j _

theorem mult_bodyProb (h : b.Finite) (i j : Fin 384) :
    b.mult i j * (b.bodyProb i j * b.gs i) = b.mult i j * (b.prob i j * b.gs i) := by
  rw [bodyProb_eq, ite_mul, zero_mul, mult_mask h]

/-- A product with a finite array split into what its rounding keeps and the rest: over the extended reals the rounding keeps
    everything, and the rest is zero. -/
theorem split_sum {f g : Fin 384 → EReal} (hf : ∀ x, IsReal (f x)) :
    (∑ x, f x * g x) + (∑ x, (f x - f x) * g x) = ∑ x, g x * f x := by
  rw [show (∑ x, (f x - f x) * g x) = 0 from Finset.sum_eq_zero fun x _ => by rw [(hf x).sub_self, zero_mul], add_zero]
  exact Finset.sum_congr rfl fun x _ => mul_comm _ _

theorem split_sum' {f g : Fin 384 → EReal} (hf : ∀ x, IsReal (f x)) :
    (∑ x, g x * f x) + (∑ x, g x * (f x - f x)) = ∑ x, g x * f x := by
  rw [show (∑ x, g x * (f x - f x)) = 0 from Finset.sum_eq_zero fun x _ => by rw [(hf x).sub_self, mul_zero], add_zero]

/-- The body's q gradient: two products, of the rounded counts and of the rest, added. -/
theorem body_dq (h : b.Finite) (d : Fin 96) (i : Fin 384) :
    ((∑ j, b.mult i j * b.bodyDs i j * b.k j d)
      + ∑ j, (b.mult i j * b.bodyDs i j - b.mult i j * b.bodyDs i j) * b.k j d) * (sm * b.ks) = b.dq d i := by
  simp only [bodyDs_eq]
  rw [split_sum fun j => (h.mult i j).mul (h.dense i j), mul_comm]
  unfold Head.dq
  simp only [mult_dense h]

/-- The body's k gradient. -/
theorem body_dk (h : b.Finite) (d : Fin 96) (j : Fin 384) :
    ((∑ i, b.q i d * (b.mult i j * b.bodyDs i j))
      + ∑ i, b.q i d * (b.mult i j * b.bodyDs i j - b.mult i j * b.bodyDs i j)) * (sm * b.qs) = b.dk d j := by
  simp only [bodyDs_eq]
  rw [split_sum' fun i => (h.mult i j).mul (h.dense i j), mul_comm]
  unfold Head.dk
  simp only [mult_dense h]

/-- The body's v gradient. -/
theorem body_dv (h : b.Finite) (d : Fin 96) (j : Fin 384) :
    (∑ i, b.g i d * (b.mult i j * (b.bodyProb i j * b.gs i)))
      + (∑ i, b.g i d * (b.mult i j * (b.bodyProb i j * b.gs i) - b.mult i j * (b.bodyProb i j * b.gs i))) = b.dv d j := by
  simp only [mult_bodyProb h]
  rw [split_sum' fun i => (h.mult i j).mul ((h.prob i j).mul (h.gs i))]
  rfl

end Head

end Cert.Proof
-- ==== Proof.Count.lean ====
/- How often an entry occurs: 32 rows and 128 columns of counts are packed in 16 x 128 words, the low half of a word the count of
   its row, the high half the count of the row 16 below. -/
module

public import proofs.«01_k».proof.Proof.Head

@[expose] public section

noncomputable section

namespace Cert.Proof

open Idealize.ShloMosaic

/-- The words of one head of one batch: 12 units of 32 rows, 3 blocks of 128 columns. -/
abbrev Words : Type := Fin 12 → Fin 3 → Fin 16 → Fin 128 → BitVec 32

/-- The count of row `i` and column `j`. -/
def count (w : Words) (i j : Fin 384) : BitVec 32 :=
  if h : i.val % 32 < 16 then
    IntOp.andi (w ⟨i.val / 32, by omega⟩ ⟨j.val / 128, by omega⟩ ⟨i.val % 32, h⟩ ⟨j.val % 128, Nat.mod_lt _ (by decide)⟩) 65535#32
  else
    IntOp.shrui .vector
      (w ⟨i.val / 32, by omega⟩ ⟨j.val / 128, by omega⟩ ⟨i.val % 32 - 16, by omega⟩ ⟨j.val % 128, Nat.mod_lt _ (by decide)⟩) 16#32

theorem andi_lt (x : BitVec 32) : (IntOp.andi x 65535#32).toNat < 65536 := by
  have h : (x &&& 65535#32).toNat = x.toNat &&& 65535 := BitVec.toNat_and ..
  show (x &&& 65535#32).toNat < 65536
  rw [h]
  exact Nat.lt_succ_of_le Nat.and_le_right

theorem shrui_lt (x : BitVec 32) : (IntOp.shrui .vector x 16#32).toNat < 65536 := by
  have h : IntOp.shrui .vector x 16#32 = x >>> 16 := by simp [IntOp.shrui]
  rw [h, BitVec.toNat_ushiftRight, Nat.shiftRight_eq_div_pow]
  have := x.isLt
  omega

/-- A count is below 2 to the power 16. -/
theorem count_lt (w : Words) (i j : Fin 384) : (count w i j).toNat < 65536 := by
  unfold count
  split
  · exact andi_lt _
  · exact shrui_lt _

theorem count_toInt (w : Words) (i j : Fin 384) : (count w i j).toInt = ((count w i j).toNat : ℤ) :=
  BitVec.toInt_eq_toNat_of_lt (by have := count_lt w i j; omega)

/-- The count as a number. -/
def countR (w : Words) (i j : Fin 384) : EReal := (((count w i j).toInt : ℝ) : EReal)

theorem countR_real (w : Words) (i j : Fin 384) : IsReal (countR w i j) := ⟨_, rfl⟩

theorem countR_nonneg (w : Words) (i j : Fin 384) : 0 ≤ countR w i j := by
  unfold countR
  rw [count_toInt]
  exact EReal.coe_nonneg.mpr (by exact_mod_cast Nat.zero_le _)

/-- The count is positive as a word exactly when it is as a number. -/
theorem countR_pos (w : Words) (i j : Fin 384) : 0 < countR w i j ↔ 0 < (count w i j).toInt := by
  unfold countR
  rw [EReal.coe_pos]
  exact_mod_cast Iff.rfl

end Cert.Proof
-- ==== Proof.Args.lean ====
/- The operands of one head of one batch, as the arrays that both programs are given hold them. -/
module

public import proofs.«01_k».proof.Proof.Count

@[expose] public section

set_option maxRecDepth 16384

noncomputable section

namespace Cert.Proof

open Idealize.ShloMosaic

/-- The arguments of both programs: the codes of q, k, v and of the output's gradient as bytes, over (batch, row, head, depth);
    their scales; the output; the log-sum-exps; the packed multiplicities. -/
structure Args where
  /-- q's codes. -/
  q : Vec Ideal ⟨4, ![5, 384, 30, 96]⟩ .i8
  /-- q's scales, by batch and head. -/
  qs : Vec Ideal ⟨2, ![5, 30]⟩ .f32
  /-- k's codes. -/
  k : Vec Ideal ⟨4, ![5, 384, 30, 96]⟩ .i8
  /-- k's scales, by batch and head. -/
  ks : Vec Ideal ⟨2, ![5, 30]⟩ .f32
  /-- v's codes. -/
  v : Vec Ideal ⟨4, ![5, 384, 30, 96]⟩ .i8
  /-- v's scales, by batch and head. -/
  vs : Vec Ideal ⟨2, ![5, 30]⟩ .f32
  /-- The output. -/
  o : Vec Ideal ⟨4, ![5, 384, 30, 96]⟩ .bf16
  /-- The log-sum-exps, by batch, row and head. -/
  lse : Vec Ideal ⟨3, ![5, 384, 30]⟩ .f32
  /-- The codes of the output's gradient. -/
  g : Vec Ideal ⟨4, ![5, 384, 30, 96]⟩ .i8
  /-- The scales of the output's gradient, by batch and row. -/
  gs : Vec Ideal ⟨2, ![5, 384]⟩ .f32
  /-- The packed multiplicities, by unit of 32 rows, block of 128 columns, row and column. -/
  words : Vec Ideal ⟨4, ![1800, 3, 16, 128]⟩ .i32

/-- Unit `u` of head `h` of batch `b`, among all units: heads first, then batches. -/
def unitOf (b : Fin 5) (h : Fin 30) (u : Fin 12) : Fin 1800 := ⟨(h.val * 5 + b.val) * 12 + u.val, by
  have := b.isLt; have := h.isLt; have := u.isLt; omega⟩

/-- The number that an e4m3 code stands for. -/
abbrev e4m3 (x : BitVec 8) : EReal := Ideal.ofBits .fp8e4m3 x

/-- The number that an e5m2 code stands for. -/
abbrev e5m2 (x : BitVec 8) : EReal := Ideal.ofBits .fp8e5m2 x

/-- The operands of head `h` of batch `b`. -/
def Args.head (a : Args) (b : Fin 5) (h : Fin 30) : Head where
  qs := a.qs (ix2 b h)
  ks := a.ks (ix2 b h)
  vs := a.vs (ix2 b h)
  q i d := e4m3 (a.q (ix4 b i h d))
  k i d := e4m3 (a.k (ix4 b i h d))
  v i d := e4m3 (a.v (ix4 b i h d))
  g i d := e5m2 (a.g (ix4 b i h d))
  o i d := a.o (ix4 b i h d)
  lse i := a.lse (ix3 b i h)
  gs i := a.gs (ix2 b i)
  mult := countR fun u c r l => a.words (ix4 (unitOf b h u) c r l)

/-- The array of the score's gradients, by unit, block of columns, row and column. -/
def Args.dense (a : Args) (y : Shape.Idx ⟨4, ![1800, 3, 32, 128]⟩) : EReal :=
  (a.head ⟨(y 0).val / 12 % 5, Nat.mod_lt _ (by decide)⟩ ⟨(y 0).val / 60, by
      have h : (y 0).val < 1800 := (y 0).isLt
      omega⟩).dense
    ⟨(y 0).val % 12 * 32 + (y 2).val, by have h : (y 2).val < 32 := (y 2).isLt; omega⟩
    ⟨(y 1).val * 128 + (y 3).val, by
      have h : (y 1).val < 3 := (y 1).isLt
      have h' : (y 3).val < 128 := (y 3).isLt
      omega⟩

end Cert.Proof

end
-- ==== Proof.Block.lean ====
/- What one grid point of the kernel's region writes: from the blocks that the point is handed, the gradients of one head of one
   batch (Head.lean). -/
module

public import proofs.«01_k».proof.Proof.Gen.KernelIdeal.Run
public import proofs.«01_k».proof.Proof.Gen.KernelIdeal.Read
public import proofs.«01_k».proof.Proof.Count
public import Idealize.ShloMosaic.Lib.VecWindow
public import Idealize.ShloMosaic.Lib.Pipeline.ValueKit.Tiles

@[expose] public section

set_option maxRecDepth 16384

noncomputable section

namespace Cert.Proof

open Cert.KernelIdeal Cert.KernelIdeal.Gen Idealize.ShloMosaic Idealize.ShloMosaic.TcCoe

/-- The operands of a head as one point's blocks hold them: the codes and the output depth by row, the log-sum-exps and the
    gradient's scales as two rows. -/
def blockHead (qs ks vs : EReal) (q k v : Vec Ideal S1x1x96x384 .fp8e4m3) (g : Vec Ideal S1x1x96x384 .fp8e5m2)
    (o : Vec Ideal S1x1x96x384 .bf16) (r : Vec Ideal S1x1x2x384 .f32) (w : Vec Ideal S12x3x16x128 .i32) : Head where
  qs := qs
  ks := ks
  vs := vs
  q i d := q (ix4 0 0 d i)
  k i d := k (ix4 0 0 d i)
  v i d := v (ix4 0 0 d i)
  g i d := g (ix4 0 0 d i)
  o i d := o (ix4 0 0 d i)
  lse i := r (ix4 0 0 0 i)
  gs i := r (ix4 0 0 1 i)
  mult := countR fun u c a l => w (ix4 u c a l)

/-- Two indices with the same coordinates are one. -/
theorem ix4_congr {a b c d : ℕ} {x x' : Fin a} {y y' : Fin b} {z z' : Fin c} {u u' : Fin d} (hx : x.val = x'.val)
    (hy : y.val = y'.val) (hz : z.val = z'.val) (hu : u.val = u'.val) : ix4 x y z u = ix4 x' y' z' u' := by
  rw [Fin.ext hx, Fin.ext hy, Fin.ext hz, Fin.ext hu]

/-- The unpacked words, as numbers. -/
theorem pay_count (w : Vec Ideal S12x3x16x128 .i32) (i j : Fin 384) :
    k0_pay18 (F := Ideal) w (ix2 i j) = countR (fun u c a l => w (ix4 u c a l)) i j := by
  pointwise [k0_pay18]
  have hj := j.isLt
  refine congrArg (fun x : BitVec 32 => (((x.toInt : ℤ) : ℝ) : EReal)) ?_
  unfold count
  by_cases h0 : i.val % 32 < 16
  · simp only [dif_pos h0]
    split_ifs with h1 h2 <;>
      exact congrArg (fun y => IntOp.andi (w y) 65535#32) (ix4_congr rfl
        (by first | (show 0 = j.val / 128; omega) | (show 1 = j.val / 128; omega) | (show 2 = j.val / 128; omega)) rfl (by dsimp only; omega))
  · simp only [dif_neg h0]
    split_ifs with h1 h2 <;>
      exact congrArg (fun y => IntOp.shrui .vector (w y) 16#32) (ix4_congr rfl
        (by first | (show 0 = j.val / 128; omega) | (show 1 = j.val / 128; omega) | (show 2 = j.val / 128; omega)) rfl (by dsimp only; omega))

variable (qs ks vs : EReal) (q k v : Vec Ideal S1x1x96x384 .fp8e4m3) (g : Vec Ideal S1x1x96x384 .fp8e5m2)
    (o : Vec Ideal S1x1x96x384 .bf16) (r : Vec Ideal S1x1x2x384 .f32) (w : Vec Ideal S12x3x16x128 .i32)

/-- The body's gradient of the score, as an array. -/
abbrev dsArr (qs ks vs : EReal) (q k v : Vec Ideal S1x1x96x384 .fp8e4m3) (g : Vec Ideal S1x1x96x384 .fp8e5m2)
    (o : Vec Ideal S1x1x96x384 .bf16) (r : Vec Ideal S1x1x2x384 .f32) (w : Vec Ideal S12x3x16x128 .i32) : FVec Ideal S384x384 .f32 :=
  k0_pay21 vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32)

theorem pay_ds (i j : Fin 384) : dsArr qs ks vs q k v g o r w (ix2 i j) = (blockHead qs ks vs q k v g o r w).bodyDs i j := by
  pointwise [dsArr, k0_pay21, k0_pay20, k0_pay4, k0_pay11, k0_pay8, k0_pay5, k0_pay15, k0_pay16, k0_pay17, k0_pay14, k0_pay12, k0_pay13,
    k0_pay19, k0_pay7, k0_pay9, k0_pay6]
  simp only [pay_count]
  rfl

/-- The counts times the gradient of the score, as the two products take them: what the rounding keeps. -/
theorem pay_hi (i j : Fin 384) :
    k0_pay26 vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) (ix2 i j)
      = (blockHead qs ks vs q k v g o r w).mult i j * (blockHead qs ks vs q k v g o r w).bodyDs i j := by
  rw [← pay_ds, show (blockHead qs ks vs q k v g o r w).mult i j = _ from (pay_count w i j).symm]
  rfl

/-- … and the rest. -/
theorem pay_lo (i j : Fin 384) :
    k0_pay27 vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) (ix2 i j)
      = (blockHead qs ks vs q k v g o r w).mult i j * (blockHead qs ks vs q k v g o r w).bodyDs i j
        - (blockHead qs ks vs q k v g o r w).mult i j * (blockHead qs ks vs q k v g o r w).bodyDs i j := by
  rw [← pay_hi]
  rfl

/-- The counts times the probability times the gradient's scale. -/
theorem pay_pd (i j : Fin 384) :
    k0_pay28 (k0_pay15 (k0_pay12 r) (k0_pay13 g r o)) (k0_pay16 (k0_pay12 r) (k0_pay13 g r o))
    (k0_pay18 w) (k0_pay19 qs ks (k0_pay7 k) (k0_pay9 q)) (Scalar.ofBits (F := Ideal) .f32 0x00000000#32) (ix2 i j)
      = (blockHead qs ks vs q k v g o r w).mult i j
        * ((blockHead qs ks vs q k v g o r w).bodyProb i j * (blockHead qs ks vs q k v g o r w).gs i) := by
  pointwise [k0_pay28, k0_pay20, k0_pay15, k0_pay16, k0_pay14, k0_pay12, k0_pay13, k0_pay19, k0_pay7, k0_pay9, k0_pay6]
  simp only [pay_count]
  rfl

theorem pay1_apply (x : EReal) (y : FVec Ideal S384x96 .bf16) (hi lo : FVec Ideal S384x384 .bf16) (d : Fin 96) (i : Fin 384) :
    k0_pay1 (F := Ideal) x y hi lo (ix4 0 0 d i)
      = ((∑ j, hi (ix2 i j) * y (ix2 j d)) + ∑ j, lo (ix2 i j) * y (ix2 j d)) * (Head.sm * x) := by
  pointwise [k0_pay1]
  rfl

theorem pay2_apply (x : EReal) (y : FVec Ideal S96x384 .bf16) (hi lo : FVec Ideal S384x384 .bf16) (d : Fin 96) (j : Fin 384) :
    k0_pay2 (F := Ideal) x y hi lo (ix4 0 0 d j)
      = ((∑ i, y (ix2 d i) * hi (ix2 i j)) + ∑ i, y (ix2 d i) * lo (ix2 i j)) * (Head.sm * x) := by
  pointwise [k0_pay2]
  rfl

theorem pay3_apply (y : FVec Ideal S96x384 .bf16) (p : FVec Ideal S384x384 .f32) (d : Fin 96) (j : Fin 384) :
    k0_pay3 (F := Ideal) y p (ix4 0 0 d j)
      = (∑ i, y (ix2 d i) * p (ix2 i j)) + ∑ i, y (ix2 d i) * (p (ix2 i j) - p (ix2 i j)) := by
  pointwise [k0_pay3]

/-! The three stores of the gradient of the score: the columns 128c, …, 128c + 127, the rows 32 by 32. -/

theorem pay22_apply (u : Fin 12) (x : Fin 32) (l : Fin 128) :
    k0_pay22 vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) (ix4 u 0 x l)
      = (blockHead qs ks vs q k v g o r w).bodyDs ⟨u.val * 32 + x.val, by omega⟩ ⟨0 + l.val, by omega⟩ := by
  rw [← pay_ds]
  unfold k0_pay22 dsArr
  generalize k0_pay21 (F := Ideal) vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) = A
  pointwise []

theorem pay23_apply (u : Fin 12) (x : Fin 32) (l : Fin 128) :
    k0_pay23 vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) (ix4 u 0 x l)
      = (blockHead qs ks vs q k v g o r w).bodyDs ⟨u.val * 32 + x.val, by omega⟩ ⟨128 + l.val, by omega⟩ := by
  rw [← pay_ds]
  unfold k0_pay23 dsArr
  generalize k0_pay21 (F := Ideal) vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) = A
  pointwise []

theorem pay24_apply (u : Fin 12) (x : Fin 32) (l : Fin 128) :
    k0_pay24 vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) (ix4 u 0 x l)
      = (blockHead qs ks vs q k v g o r w).bodyDs ⟨u.val * 32 + x.val, by omega⟩ ⟨256 + l.val, by omega⟩ := by
  rw [← pay_ds]
  unfold k0_pay24 dsArr
  generalize k0_pay21 (F := Ideal) vs (k0_pay4 v) (k0_pay11 g) (k0_pay15 (k0_pay12 r) (k0_pay13 g r o)) (k0_pay16 (k0_pay12 r) (k0_pay13 g r o))
    (k0_pay17 (k0_pay12 r) (k0_pay13 g r o)) (k0_pay18 w) (k0_pay19 qs ks (k0_pay7 k) (k0_pay9 q))
    (Scalar.ofBits (F := Ideal) .f32 0x00000000#32) = A
  pointwise []

theorem pay10_apply (x : Vec Ideal S1x1x96x384 .fp8e4m3) (j : Fin 384) (d : Fin 96) : k0_pay10 (F := Ideal) x (ix2 j d) = x (ix4 0 0 d j) := by
  pointwise [k0_pay10, k0_pay7]

theorem pay6_apply (x : Vec Ideal S1x1x96x384 .fp8e4m3) (d : Fin 96) (i : Fin 384) : k0_pay6 (F := Ideal) x (ix2 d i) = x (ix4 0 0 d i) := by
  pointwise [k0_pay6]

theorem pay8_apply (x : Vec Ideal S1x1x96x384 .fp8e5m2) (d : Fin 96) (i : Fin 384) : k0_pay8 (F := Ideal) x (ix2 d i) = x (ix4 0 0 d i) := by
  pointwise [k0_pay8, k0_pay5]

theorem hz4 : (![0, 0, 0, 0] : Fin 4 → ℕ) = 0 := by funext a; fin_cases a <;> rfl

/-- A scalar load of a word of a whole array reads that word. -/
theorem scalar_load {mr : Memref sig .tc .smem S5x30 .f32} (hm : mr.IsWhole) (x : Vec Ideal S5x30 .f32) (off : Fin 2 → ℕ)
    (inb : ∀ a, off a + S1x1.size a ≤ S5x30.size a) (y : S1x1.Idx) (b : Fin 5) (h : Fin 30) (hb : off 0 = b.val) (hh : off 1 = h.val) :
    View.readAt (Elt Ideal) mr.view (Rect.unit (s := S5x30) off S1x1.size inb).toLoadRect (hm.unread x) y = x (ix2 b h) := by
  rw [View.readAt_apply, hm.read_unread]
  refine congrArg x (funext fun a => Fin.ext ?_)
  have h0 : (y a).val = 0 := by
    match a with
    | ⟨0, _⟩ => exact Nat.lt_one_iff.mp (y 0).isLt
    | ⟨1, _⟩ => exact Nat.lt_one_iff.mp (y 1).isLt
  rw [Rect.idx_unit_val, h0]
  match a with
  | ⟨0, _⟩ => exact hb
  | ⟨1, _⟩ => exact hh

end Cert.Proof
-- ==== Proof.Point.lean ====
/- What the body leaves in its four output blocks at the point of head h of batch b: the gradients of that head. -/
module

public import proofs.«01_k».proof.Proof.Block

@[expose] public section

set_option maxRecDepth 16384

noncomputable section

namespace Cert.Proof

open Cert.KernelIdeal Cert.KernelIdeal.Gen Idealize.ShloMosaic Idealize.ShloMosaic.TcCoe

/-- The grid's point of head `h` of batch `b`: the batches run fastest. -/
def pt (b : Fin 5) (h : Fin 30) : Fin cfg0.N := ⟨h.val * 5 + b.val, by
  have hb := b.isLt
  have hh := h.isLt
  have hN : cfg0.N = 150 := by decide
  omega⟩

theorem pt_coords : ∀ (b : Fin 5) (h : Fin 30), (grid0.coords (pt b h) 0).val = h.val ∧ (grid0.coords (pt b h) 1).val = b.val := by
  decide +kernel

variable (m : (ℓ : Loc nD τ sig) → Buf (Elt Ideal) ℓ) (c : Dev nD) (b : Fin 5) (h : Fin 30)

/-- The operands of head `h` of batch `b`, as the blocks of its point hold them. -/
def pointHead : Head :=
  blockHead (iblk m c 0 (pt b h) (ix2 b h)) (iblk m c 1 (pt b h) (ix2 b h)) (iblk m c 2 (pt b h) (ix2 b h)) (iblk m c 3 (pt b h))
    (iblk m c 4 (pt b h)) (iblk m c 5 (pt b h)) (iblk m c 6 (pt b h)) (iblk m c 7 (pt b h)) (iblk m c 8 (pt b h)) (iblk m c 9 (pt b h))

/-- The scales' words that the point reads are those of its head. -/
theorem point_word {mr : Memref sig .tc .smem S5x30 .f32} (hm : mr.IsWhole) (x : Vec Ideal S5x30 .f32) (inb) (y : S1x1.Idx) :
    View.readAt (Elt Ideal) mr.view (Rect.unit (s := S5x30) (k0_off1 (grid0.coords (pt b h))) S1x1.size inb).toLoadRect (hm.unread x) y = x (ix2 b h) := by
  have hb := b.isLt
  have hh := h.isLt
  obtain ⟨e0, e1⟩ := pt_coords b h
  refine scalar_load hm x _ inb y b h ?_ ?_
  · show BitVec.toNat (Scalar.indexCast (BitVec.ofNat 32 (grid0.coords (pt b h) 1).val)) = _
    rw [e1]; simp [Scalar.indexCast]; omega
  · show BitVec.toNat (Scalar.indexCast (BitVec.ofNat 32 (grid0.coords (pt b h) 0).val)) = _
    rw [e0]; simp [Scalar.indexCast]; omega

/-- A load of a whole block reads the block. -/
theorem load_whole {sp : Space} {s : Shape} {e : EltTy} {mr : Memref sig .tc sp s e} (hm : mr.IsWhole) (x : s.Idx → Elt Ideal e)
    {off : Fin s.rank → ℕ} (h0 : off = fun _ => 0) (inb : ∀ a, off a + s.size a ≤ s.size a) :
    View.readAt (Elt Ideal) mr.view (Rect.unit (s := s) off s.size inb).toLoadRect (hm.unread x) = x := by
  rw [View.readAt_eq_ld, hm.read_unread]
  exact View.ld_unit_zero h0 inb x

variable {m c b h}

/-- The counts times the gradient of the score, as the point has them. -/
theorem word_hi (i j : Fin 384) :
    kernelRun0_A.sl.r_17 c (grid0.coords (pt b h)) (ms0_0 (pt b h)) (hs0_0 _) (ms0_1 (pt b h)) (hs0_1 _) (ms0_2 (pt b h)) (hs0_2 _)
      (ms0_3 (pt b h)) (hs0_3 _) (ms0_4 (pt b h)) (hs0_4 _) (ms0_5 (pt b h)) (hs0_5 _) (ms0_6 (pt b h)) (hs0_6 _)
      (ms0_7 (pt b h)) (hs0_7 _) (ms0_8 (pt b h)) (hs0_8 _) (ms0_9 (pt b h)) (hs0_9 _) (iblk m c 0 (pt b h)) (iblk m c 1 (pt b h))
      (iblk m c 2 (pt b h)) (iblk m c 3 (pt b h)) (iblk m c 4 (pt b h)) (iblk m c 5 (pt b h)) (iblk m c 6 (pt b h))
      (iblk m c 7 (pt b h)) (iblk m c 8 (pt b h)) (iblk m c 9 (pt b h)) (ix2 i j)
      = (pointHead m c b h).mult i j * (pointHead m c b h).bodyDs i j := by
  unfold kernelRun0_A.sl.r_17 kernelRun0_A.sl.r_16 kernelRun0_A.sl.r_15 kernelRun0_A.sl.r_14 kernelRun0_A.sl.r_13 kernelRun0_A.sl.r_12
    kernelRun0_A.sl.r_11 kernelRun0_A.sl.r_10 kernelRun0_A.sl.r_9 kernelRun0_A.sl.r_7 kernelRun0_A.sl.r_5 kernelRun0_A.sl.r_3
    kernelRun0_A.sl.r_2 kernelRun0_A.sl.r_1 kernelRun0_A.sl.r kernelRun0_A.sl.cst_34
  rw [point_word b h (hs0_0 _), point_word b h (hs0_1 _), point_word b h (hs0_2 _), load_whole (hs0_3 _) _ hz4,
    load_whole (hs0_4 _) _ hz4, load_whole (hs0_5 _) _ hz4, load_whole (hs0_6 _) _ hz4, load_whole (hs0_7 _) _ hz4,
    load_whole (hs0_8 _) _ hz4, load_whole (hs0_9 _) _ hz4]
  exact pay_hi _ _ _ _ _ _ _ _ _ _ i j

/-- What a rounding of them leaves. -/
theorem word_lo (i j : Fin 384) :
    kernelRun0_A.sl.r_18 c (grid0.coords (pt b h)) (ms0_0 (pt b h)) (hs0_0 _) (ms0_1 (pt b h)) (hs0_1 _) (ms0_2 (pt b h)) (hs0_2 _)
      (ms0_3 (pt b h)) (hs0_3 _) (ms0_4 (pt b h)) (hs0_4 _) (ms0_5 (pt b h)) (hs0_5 _) (ms0_6 (pt b h)) (hs0_6 _)
      (ms0_7 (pt b h)) (hs0_7 _) (ms0_8 (pt b h)) (hs0_8 _) (ms0_9 (pt b h)) (hs0_9 _) (iblk m c 0 (pt b h)) (iblk m c 1 (pt b h))
      (iblk m c 2 (pt b h)) (iblk m c 3 (pt b h)) (iblk m c 4 (pt b h)) (iblk m c 5 (pt b h)) (iblk m c 6 (pt b h))
      (iblk m c 7 (pt b h)) (iblk m c 8 (pt b h)) (iblk m c 9 (pt b h)) (ix2 i j)
      = (pointHead m c b h).mult i j * (pointHead m c b h).bodyDs i j - (pointHead m c b h).mult i j * (pointHead m c b h).bodyDs i j := by
  unfold kernelRun0_A.sl.r_18 kernelRun0_A.sl.r_16 kernelRun0_A.sl.r_15 kernelRun0_A.sl.r_14 kernelRun0_A.sl.r_13 kernelRun0_A.sl.r_12
    kernelRun0_A.sl.r_11 kernelRun0_A.sl.r_10 kernelRun0_A.sl.r_9 kernelRun0_A.sl.r_7 kernelRun0_A.sl.r_5 kernelRun0_A.sl.r_3
    kernelRun0_A.sl.r_2 kernelRun0_A.sl.r_1 kernelRun0_A.sl.r kernelRun0_A.sl.cst_34
  rw [point_word b h (hs0_0 _), point_word b h (hs0_1 _), point_word b h (hs0_2 _), load_whole (hs0_3 _) _ hz4,
    load_whole (hs0_4 _) _ hz4, load_whole (hs0_5 _) _ hz4, load_whole (hs0_6 _) _ hz4, load_whole (hs0_7 _) _ hz4,
    load_whole (hs0_8 _) _ hz4, load_whole (hs0_9 _) _ hz4]
  exact pay_lo _ _ _ _ _ _ _ _ _ _ i j

/-- The counts times the probability times the gradient's scale. -/
theorem word_pd (i j : Fin 384) :
    kernelRun0_A.sl.r_19 c (grid0.coords (pt b h)) (ms0_0 (pt b h)) (hs0_0 _) (ms0_1 (pt b h)) (hs0_1 _) (ms0_3 (pt b h)) (hs0_3 _)
      (ms0_4 (pt b h)) (hs0_4 _) (ms0_6 (pt b h)) (hs0_6 _) (ms0_7 (pt b h)) (hs0_7 _) (ms0_8 (pt b h)) (hs0_8 _)
      (ms0_9 (pt b h)) (hs0_9 _) (iblk m c 0 (pt b h)) (iblk m c 1 (pt b h)) (iblk m c 3 (pt b h)) (iblk m c 4 (pt b h))
      (iblk m c 6 (pt b h)) (iblk m c 7 (pt b h)) (iblk m c 8 (pt b h)) (iblk m c 9 (pt b h)) (ix2 i j)
      = (pointHead m c b h).mult i j * ((pointHead m c b h).bodyProb i j * (pointHead m c b h).gs i) := by
  unfold kernelRun0_A.sl.r_19 kernelRun0_A.sl.r_16 kernelRun0_A.sl.r_15 kernelRun0_A.sl.r_13 kernelRun0_A.sl.r_12 kernelRun0_A.sl.r_11
    kernelRun0_A.sl.r_10 kernelRun0_A.sl.r_7 kernelRun0_A.sl.r_5 kernelRun0_A.sl.r_1 kernelRun0_A.sl.r kernelRun0_A.sl.cst_34
  rw [point_word b h (hs0_0 _), point_word b h (hs0_1 _), load_whole (hs0_3 _) _ hz4, load_whole (hs0_4 _) _ hz4,
    load_whole (hs0_6 _) _ hz4, load_whole (hs0_7 _) _ hz4, load_whole (hs0_8 _) _ hz4, load_whole (hs0_9 _) _ hz4]
  exact pay_pd _ _ _ _ _ _ _ _ _ _ i j

set_option maxHeartbeats 1000000 in
/-- q's gradient. -/
theorem point_dq (hf : (pointHead m c b h).Finite) (d : Fin 96) (i : Fin 384) :
    (outsAt0 m c (pt b h)).2.1 (ix4 0 0 d i) = (pointHead m c b h).dq d i := by
  rw [← Head.body_dq hf]
  unfold outsAt0 out0_A_11
  dsimp only
  rw [View.read_writes_junk_eq_canon]
  unfold kernelRun0_A
  dsimp only
  rw [View.canon_unit_zero hz4, pay1_apply]
  simp only [word_hi, word_lo]
  unfold kernelRun0_A.sl.r_8 kernelRun0_A.sl.r_1
  rw [point_word b h (hs0_1 _), load_whole (hs0_4 _) _ hz4]
  simp only [pay10_apply]
  rfl

set_option maxHeartbeats 1000000 in
/-- k's gradient. -/
theorem point_dk (hf : (pointHead m c b h).Finite) (d : Fin 96) (i : Fin 384) :
    (outsAt0 m c (pt b h)).2.2.1 (ix4 0 0 d i) = (pointHead m c b h).dk d i := by
  rw [← Head.body_dk hf]
  unfold outsAt0 out0_A_12
  dsimp only
  rw [View.read_writes_junk_eq_canon]
  unfold kernelRun0_A
  dsimp only
  rw [View.canon_unit_zero hz4, pay2_apply]
  simp only [word_hi, word_lo]
  unfold kernelRun0_A.sl.r_4 kernelRun0_A.sl.r
  rw [point_word b h (hs0_0 _), load_whole (hs0_3 _) _ hz4]
  simp only [pay6_apply]
  rfl

set_option maxHeartbeats 1000000 in
/-- v's gradient. -/
theorem point_dv (hf : (pointHead m c b h).Finite) (d : Fin 96) (i : Fin 384) :
    (outsAt0 m c (pt b h)).2.2.2 (ix4 0 0 d i) = (pointHead m c b h).dv d i := by
  rw [← Head.body_dv hf]
  unfold outsAt0 out0_A_13
  dsimp only
  rw [View.read_writes_junk_eq_canon]
  unfold kernelRun0_A
  dsimp only
  rw [View.canon_unit_zero hz4, pay3_apply]
  simp only [word_pd]
  unfold kernelRun0_A.sl.r_6
  rw [load_whole (hs0_6 _) _ hz4]
  simp only [pay8_apply]
  rfl

/-- The gradient of the score, as the block lays it out: 12 units of 32 rows, 3 blocks of 128 columns. -/
def denseBlock (a : Head) (y : S12x3x32x128.Idx) : EReal :=
  a.dense ⟨(y 0).val * 32 + (y 2).val, by have h0 : (y 0).val < 12 := (y 0).isLt; have h2 : (y 2).val < 32 := (y 2).isLt; omega⟩
    ⟨(y 1).val * 128 + (y 3).val, by have h1 : (y 1).val < 3 := (y 1).isLt; have h3 : (y 3).val < 128 := (y 3).isLt; omega⟩

/-- What the block holds at a place of the store of column block `e`. -/
theorem denseBlock_emb (a : Head) (e : ℕ) (inb) (u : Fin 12) (x : Fin 32) (l : Fin 128) (i j : Fin 384) (hi : i.val = u.val * 32 + x.val)
    (hj : j.val = e * 128 + l.val) :
    denseBlock a ((Rect.unit (s := S12x3x32x128) ![0, e, 0, 0] S12x1x32x128.size inb).emb (ix4 u 0 x l)) = a.dense i j := by
  unfold denseBlock
  congr 1 <;> apply Fin.ext
  · show (0 + 1 * u.val) * 32 + (0 + 1 * x.val) = i.val
    omega
  · show (e + 1 * 0) * 128 + (0 + 1 * l.val) = j.val
    omega

/-- An index of a store's array. -/
theorem store_idx (x : S12x1x32x128.Idx) : ∃ (u : Fin 12) (r : Fin 32) (l : Fin 128), x = ix4 u 0 r l :=
  ⟨x 0, x 2, x 3, (eq_ix4 x).trans (congrArg (fun z : Fin 1 => ix4 (x 0) z (x 2) (x 3)) (Subsingleton.elim (α := Fin 1) (x 1) 0))⟩

/-- The gradient of the score: three stores of 128 columns each. -/
theorem point_dense (y : S12x3x32x128.Idx) : (outsAt0 m c (pt b h)).1 y = denseBlock (pointHead m c b h) y := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ _ _)]
  refine View.canon_apply_of_pieces (Val := Elt Ideal) (denseBlock (pointHead m c b h)) _ ?_ y (cover0_A_10 c _ _ _ _ _ _ _ _ _ _ _ _ _ _ _ _ _ _ _ _ _ _ _ _ _ _ _ _ _ _ _ _ _ _ _ _ _ _ _ y)
  unfold kernelRun0_A
  dsimp only
  intro p hp
  simp only [List.mem_cons, List.mem_nil_iff, or_false] at hp
  rcases hp with rfl | rfl | rfl <;> intro (x : S12x1x32x128.Idx) <;> dsimp only <;>
    unfold kernelRun0_A.sl.r_16 kernelRun0_A.sl.r_15 kernelRun0_A.sl.r_14 kernelRun0_A.sl.r_13 kernelRun0_A.sl.r_12 kernelRun0_A.sl.r_11
      kernelRun0_A.sl.r_10 kernelRun0_A.sl.r_9 kernelRun0_A.sl.r_7 kernelRun0_A.sl.r_5 kernelRun0_A.sl.r_3 kernelRun0_A.sl.r_2
      kernelRun0_A.sl.r_1 kernelRun0_A.sl.r kernelRun0_A.sl.cst_34 <;>
    rw [point_word b h (hs0_0 _), point_word b h (hs0_1 _), point_word b h (hs0_2 _), load_whole (hs0_3 _) _ hz4,
      load_whole (hs0_4 _) _ hz4, load_whole (hs0_5 _) _ hz4, load_whole (hs0_6 _) _ hz4, load_whole (hs0_7 _) _ hz4,
      load_whole (hs0_8 _) _ hz4, load_whole (hs0_9 _) _ hz4]
  · obtain ⟨u, r, l, rfl⟩ := store_idx x
    exact (pay24_apply _ _ _ _ _ _ _ _ _ _ u r l).trans ((Head.bodyDs_eq _ _ _).trans (denseBlock_emb _ 2 _ u r l _ _ rfl (by dsimp only)).symm)
  · obtain ⟨u, r, l, rfl⟩ := store_idx x
    exact (pay23_apply _ _ _ _ _ _ _ _ _ _ u r l).trans ((Head.bodyDs_eq _ _ _).trans (denseBlock_emb _ 1 _ u r l _ _ rfl (by dsimp only)).symm)
  · obtain ⟨u, r, l, rfl⟩ := store_idx x
    exact (pay22_apply _ _ _ _ _ _ _ _ _ _ u r l).trans ((Head.bodyDs_eq _ _ _).trans (denseBlock_emb _ 0 _ u r l _ _ rfl (by dsimp only)).symm)

end Cert.Proof
-- ==== Proof.Array.lean ====
/- What the kernel's result arrays hold after the run: at every head of every batch, the gradients of that head. -/
module

public import proofs.«01_k».proof.Proof.Args
public import proofs.«01_k».proof.Proof.Point
public import Idealize.ShloMosaic.Lib.Claim

@[expose] public section

set_option maxRecDepth 16384

noncomputable section

namespace Cert.Proof

open Cert.KernelIdeal Cert.KernelIdeal.Gen Idealize.ShloMosaic Idealize.ShloMosaic.TcCoe

variable (m : (ℓ : Loc nD τ sig) → Buf (Elt Ideal) ℓ) (c : Dev nD) (b : Fin 5) (h : Fin 30)

/-- The kernel's arguments. -/
def kArgs : Args where
  q := m ((c : Thread nD τ).loc main_arg0)
  qs := m ((c : Thread nD τ).loc main_arg1)
  k := m ((c : Thread nD τ).loc main_arg2)
  ks := m ((c : Thread nD τ).loc main_arg3)
  v := m ((c : Thread nD τ).loc main_arg4)
  vs := m ((c : Thread nD τ).loc main_arg5)
  o := m ((c : Thread nD τ).loc main_arg6)
  lse := m ((c : Thread nD τ).loc main_arg7)
  g := m ((c : Thread nD τ).loc main_arg8)
  gs := m ((c : Thread nD τ).loc main_arg9)
  words := m ((c : Thread nD τ).loc main_arg10)

/-- The scales are whole arrays. -/
theorem idx_scale : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

/-- The blocks of a head: one of its batch and head, all depths and rows. -/
theorem idx_head : ∀ (b : Fin 5) (h : Fin 30),
    win0_3.index (pt b h) = ![b.val, h.val, 0, 0] ∧ win0_4.index (pt b h) = ![b.val, h.val, 0, 0] ∧ win0_5.index (pt b h) = ![b.val, h.val, 0, 0]
    ∧ win0_6.index (pt b h) = ![b.val, h.val, 0, 0] ∧ win0_7.index (pt b h) = ![b.val, h.val, 0, 0] ∧ win0_8.index (pt b h) = ![b.val, h.val, 0, 0]
    ∧ win0_11.index (pt b h) = ![b.val, h.val, 0, 0] ∧ win0_12.index (pt b h) = ![b.val, h.val, 0, 0] ∧ win0_13.index (pt b h) = ![b.val, h.val, 0, 0]
    ∧ win0_9.index (pt b h) = ![h.val * 5 + b.val, 0, 0, 0] ∧ win0_10.index (pt b h) = ![h.val * 5 + b.val, 0, 0, 0] := by
  decide +kernel

/-- An index of an array of head blocks whose block is that of head `h` of batch `b`. -/
theorem emb_head {b : Fin 5} {h : Fin 30} {n : ℕ} {f : Fin 4 → ℕ} (e : f = ![b.val, h.val, 0, 0]) (d : Fin n) (i : Fin 384)
    (z : Shape.Idx ⟨4, ![5, 30, n, 384]⟩)
    (hz : ∀ a : Fin 4, (z a).val = f a * (![1, 1, n, 384] a : ℕ) + 1 * ((ix4 0 0 d i : Shape.Idx ⟨4, ![1, 1, n, 384]⟩) a).val) :
    z = ix4 b h d i := by
  subst e
  funext a; apply Fin.ext
  match a with
  | ⟨0, _⟩ => refine (hz 0).trans ?_; show b.val * 1 + 1 * 0 = b.val; omega
  | ⟨1, _⟩ => refine (hz 1).trans ?_; show h.val * 1 + 1 * 0 = h.val; omega
  | ⟨2, _⟩ => refine (hz 2).trans ?_; show 0 * n + 1 * d.val = d.val; omega
  | ⟨3, _⟩ => refine (hz 3).trans ?_; show 0 * 384 + 1 * i.val = i.val; omega

/-- An index of an array of units whose block is that of the units of head `h` of batch `b`. -/
theorem emb_unit {b : Fin 5} {h : Fin 30} {n : ℕ} {f : Fin 4 → ℕ} (e : f = ![h.val * 5 + b.val, 0, 0, 0]) (u : Fin 12) (k : Fin 3) (r : Fin n)
    (l : Fin 128) (z : Shape.Idx ⟨4, ![1800, 3, n, 128]⟩)
    (hz : ∀ a : Fin 4, (z a).val = f a * (![12, 3, n, 128] a : ℕ) + 1 * ((ix4 u k r l : Shape.Idx ⟨4, ![12, 3, n, 128]⟩) a).val) :
    z = ix4 (unitOf b h u) k r l := by
  subst e
  funext a; apply Fin.ext
  match a with
  | ⟨0, _⟩ => refine (hz 0).trans ?_; show (h.val * 5 + b.val) * 12 + 1 * u.val = (h.val * 5 + b.val) * 12 + u.val; omega
  | ⟨1, _⟩ => refine (hz 1).trans ?_; show 0 * 3 + 1 * k.val = k.val; omega
  | ⟨2, _⟩ => refine (hz 2).trans ?_; show 0 * n + 1 * r.val = r.val; omega
  | ⟨3, _⟩ => refine (hz 3).trans ?_; show 0 * 128 + 1 * l.val = l.val; omega

/-- An index of a whole array of scales. -/
theorem emb_scale {f : Fin 2 → ℕ} (e0 : f 0 = 0) (e1 : f 1 = 0) (b : Fin 5) (h : Fin 30) (z : Shape.Idx ⟨2, ![5, 30]⟩)
    (hz : ∀ a : Fin 2, (z a).val = f a * (![5, 30] a : ℕ) + 1 * ((ix2 b h : Shape.Idx ⟨2, ![5, 30]⟩) a).val) : z = ix2 b h := by
  funext a; apply Fin.ext
  match a with
  | ⟨0, _⟩ => refine (hz 0).trans ?_; rw [e0]; show 0 * 5 + 1 * b.val = b.val; omega
  | ⟨1, _⟩ => refine (hz 1).trans ?_; rw [e1]; show 0 * 30 + 1 * h.val = h.val; omega

/-- Every point writes its blocks back. -/
theorem flush_all : ∀ t : Fin cfg0.N, (cfg0.win 10).flush t = true ∧ (cfg0.win 11).flush t = true ∧ (cfg0.win 12).flush t = true
    ∧ (cfg0.win 13).flush t = true := by
  decide +kernel

/-- No two points write the same block of one array. -/
theorem idx_inj : ∀ t t' : Fin cfg0.N, (win0_10.index t = win0_10.index t' → t = t') ∧ (win0_11.index t = win0_11.index t' → t = t')
    ∧ (win0_12.index t = win0_12.index t' → t = t') ∧ (win0_13.index t = win0_13.index t' → t = t') :=
  (by decide +kernel : ∀ t t' : Fin grid0.N, _)

/-- What a head's point reads of q's scale. -/
theorem iblk_qs : iblk m c 0 (pt b h) (ix2 b h) = (kArgs m c).qs (ix2 b h) := by
  obtain ⟨e0, e1, _⟩ := idx_scale (pt b h)
  show V m c main_arg1 (((cfg0.win 0).blk (pt b h)).view.emb (ix2 b h)) = _
  rw [V_main_arg1, show ((cfg0.win 0).blk (pt b h)).view.emb (ix2 b h) = ix2 b h from
    emb_scale e0 e1 b h _ fun _ => rfl]
  rfl

/-- What a head's point reads of k's scale. -/
theorem iblk_ks : iblk m c 1 (pt b h) (ix2 b h) = (kArgs m c).ks (ix2 b h) := by
  obtain ⟨_, _, e0, e1, _⟩ := idx_scale (pt b h)
  show V m c main_arg3 (((cfg0.win 1).blk (pt b h)).view.emb (ix2 b h)) = _
  rw [V_main_arg3, show ((cfg0.win 1).blk (pt b h)).view.emb (ix2 b h) = ix2 b h from
    emb_scale e0 e1 b h _ fun _ => rfl]
  rfl

/-- What a head's point reads of v's scale. -/
theorem iblk_vs : iblk m c 2 (pt b h) (ix2 b h) = (kArgs m c).vs (ix2 b h) := by
  obtain ⟨_, _, _, _, e0, e1⟩ := idx_scale (pt b h)
  show V m c main_arg5 (((cfg0.win 2).blk (pt b h)).view.emb (ix2 b h)) = _
  rw [V_main_arg5, show ((cfg0.win 2).blk (pt b h)).view.emb (ix2 b h) = ix2 b h from
    emb_scale e0 e1 b h _ fun _ => rfl]
  rfl

/-- What a head's point reads of q. -/
theorem iblk_q (d : Fin 96) (i : Fin 384) : iblk m c 3 (pt b h) (ix4 0 0 d i) = e4m3 ((kArgs m c).q (ix4 b i h d)) := by
  show StableHlo.after hostOps0 (fun r => m (c, r)) (Proc.devRef .tc main_v4) (((cfg0.win 3).blk (pt b h)).view.emb (ix4 0 0 d i)) = _
  rw [show ((cfg0.win 3).blk (pt b h)).view.emb (ix4 0 0 d i) = ix4 b h d i from
    emb_head (idx_head b h).1 d i _ fun _ => rfl]
  entry_read
  pointwise []
  rfl

/-- What a head's point reads of k. -/
theorem iblk_k (d : Fin 96) (i : Fin 384) : iblk m c 4 (pt b h) (ix4 0 0 d i) = e4m3 ((kArgs m c).k (ix4 b i h d)) := by
  show StableHlo.after hostOps0 (fun r => m (c, r)) (Proc.devRef .tc main_v5) (((cfg0.win 4).blk (pt b h)).view.emb (ix4 0 0 d i)) = _
  rw [show ((cfg0.win 4).blk (pt b h)).view.emb (ix4 0 0 d i) = ix4 b h d i from
    emb_head (idx_head b h).2.1 d i _ fun _ => rfl]
  entry_read
  pointwise []
  rfl

/-- What a head's point reads of v. -/
theorem iblk_v (d : Fin 96) (i : Fin 384) : iblk m c 5 (pt b h) (ix4 0 0 d i) = e4m3 ((kArgs m c).v (ix4 b i h d)) := by
  show StableHlo.after hostOps0 (fun r => m (c, r)) (Proc.devRef .tc main_v6) (((cfg0.win 5).blk (pt b h)).view.emb (ix4 0 0 d i)) = _
  rw [show ((cfg0.win 5).blk (pt b h)).view.emb (ix4 0 0 d i) = ix4 b h d i from
    emb_head (idx_head b h).2.2.1 d i _ fun _ => rfl]
  entry_read
  pointwise []
  rfl

/-- What a head's point reads of the incoming gradient. -/
theorem iblk_g (d : Fin 96) (i : Fin 384) : iblk m c 6 (pt b h) (ix4 0 0 d i) = e5m2 ((kArgs m c).g (ix4 b i h d)) := by
  show StableHlo.after hostOps0 (fun r => m (c, r)) (Proc.devRef .tc main_v7) (((cfg0.win 6).blk (pt b h)).view.emb (ix4 0 0 d i)) = _
  rw [show ((cfg0.win 6).blk (pt b h)).view.emb (ix4 0 0 d i) = ix4 b h d i from
    emb_head (idx_head b h).2.2.2.1 d i _ fun _ => rfl]
  entry_read
  pointwise []
  rfl

/-- What a head's point reads of the output. -/
theorem iblk_o (d : Fin 96) (i : Fin 384) : iblk m c 7 (pt b h) (ix4 0 0 d i) = (kArgs m c).o (ix4 b i h d) := by
  show StableHlo.after hostOps0 (fun r => m (c, r)) (Proc.devRef .tc main_v8) (((cfg0.win 7).blk (pt b h)).view.emb (ix4 0 0 d i)) = _
  rw [show ((cfg0.win 7).blk (pt b h)).view.emb (ix4 0 0 d i) = ix4 b h d i from
    emb_head (idx_head b h).2.2.2.2.1 d i _ fun _ => rfl]
  entry_read
  pointwise []
  rfl

/-- What a head's point reads of the log-sum-exps. -/
theorem iblk_lse (i : Fin 384) : iblk m c 8 (pt b h) (ix4 0 0 0 i) = (kArgs m c).lse (ix3 b i h) := by
  show StableHlo.after hostOps0 (fun r => m (c, r)) (Proc.devRef .tc main_v14) (((cfg0.win 8).blk (pt b h)).view.emb (ix4 0 0 0 i)) = _
  rw [show ((cfg0.win 8).blk (pt b h)).view.emb (ix4 0 0 0 i) = ix4 b h 0 i from
    emb_head (idx_head b h).2.2.2.2.2.1 (0 : Fin 2) i _ fun _ => rfl]
  entry_read
  pointwise []
  rfl

/-- What a head's point reads of the incoming gradient's scales. -/
theorem iblk_gs (i : Fin 384) : iblk m c 8 (pt b h) (ix4 0 0 1 i) = (kArgs m c).gs (ix2 b i) := by
  show StableHlo.after hostOps0 (fun r => m (c, r)) (Proc.devRef .tc main_v14) (((cfg0.win 8).blk (pt b h)).view.emb (ix4 0 0 1 i)) = _
  rw [show ((cfg0.win 8).blk (pt b h)).view.emb (ix4 0 0 1 i) = ix4 b h 1 i from
    emb_head (idx_head b h).2.2.2.2.2.1 (1 : Fin 2) i _ fun _ => rfl]
  entry_read
  pointwise []
  rfl

/-- What a head's point reads of the words. -/
theorem iblk_words (u : Fin 12) (k : Fin 3) (r : Fin 16) (l : Fin 128) :
    iblk m c 9 (pt b h) (ix4 u k r l) = (kArgs m c).words (ix4 (unitOf b h u) k r l) := by
  show V m c main_arg10 (((cfg0.win 9).blk (pt b h)).view.emb (ix4 u k r l)) = _
  rw [V_main_arg10, show ((cfg0.win 9).blk (pt b h)).view.emb (ix4 u k r l) = ix4 (unitOf b h u) k r l from
    emb_unit (idx_head b h).2.2.2.2.2.2.2.2.2.1 u k r l _ fun _ => rfl]
  rfl

/-- The blocks of a head's point hold the operands of that head. -/
theorem pointHead_eq : pointHead m c b h = (kArgs m c).head b h := by
  unfold pointHead blockHead Args.head
  simp only [iblk_qs, iblk_ks, iblk_vs, iblk_q, iblk_k, iblk_v, iblk_g, iblk_o, iblk_lse, iblk_gs, iblk_words]

/-- q's gradient in the array that the kernel returns. -/
theorem array_dq (hf : ((kArgs m c).head b h).Finite) (d : Fin 96) (i : Fin 384) :
    (dats m 0 c).arrAt 11 cfg0.N (ix4 b h d i) = ((kArgs m c).head b h).dq d i := by
  rw [← pointHead_eq] at hf ⊢
  have e := congrFun ((dats m 0 c).read_blk_arrAt_eq_flushed 11 (fun t t' _ _ hne => (cfg0.win 11).disjoint_blk fun h => hne ((idx_inj t t').2.1 h))
    cfg0.N (pt b h) (pt b h).isLt (flush_all _).2.1) (ix4 0 0 d i)
  have e' : (dats m 0 c).arrAt 11 cfg0.N (((cfg0.win 11).blk (pt b h)).view.emb (ix4 0 0 d i)) = (dats m 0 c).after 11 (pt b h) (ix4 0 0 d i) := e
  rw [after0_11] at e'
  rw [show ((cfg0.win 11).blk (pt b h)).view.emb (ix4 0 0 d i) = ix4 b h d i from
    emb_head (idx_head b h).2.2.2.2.2.2.1 d i _ fun _ => rfl] at e'
  exact e'.trans (point_dq hf d i)

/-- k's gradient in the array that the kernel returns. -/
theorem array_dk (hf : ((kArgs m c).head b h).Finite) (d : Fin 96) (i : Fin 384) :
    (dats m 0 c).arrAt 12 cfg0.N (ix4 b h d i) = ((kArgs m c).head b h).dk d i := by
  rw [← pointHead_eq] at hf ⊢
  have e := congrFun ((dats m 0 c).read_blk_arrAt_eq_flushed 12 (fun t t' _ _ hne => (cfg0.win 12).disjoint_blk fun h => hne ((idx_inj t t').2.2.1 h))
    cfg0.N (pt b h) (pt b h).isLt (flush_all _).2.2.1) (ix4 0 0 d i)
  have e' : (dats m 0 c).arrAt 12 cfg0.N (((cfg0.win 12).blk (pt b h)).view.emb (ix4 0 0 d i)) = (dats m 0 c).after 12 (pt b h) (ix4 0 0 d i) := e
  rw [after0_12] at e'
  rw [show ((cfg0.win 12).blk (pt b h)).view.emb (ix4 0 0 d i) = ix4 b h d i from
    emb_head (idx_head b h).2.2.2.2.2.2.2.1 d i _ fun _ => rfl] at e'
  exact e'.trans (point_dk hf d i)

/-- v's gradient in the array that the kernel returns. -/
theorem array_dv (hf : ((kArgs m c).head b h).Finite) (d : Fin 96) (i : Fin 384) :
    (dats m 0 c).arrAt 13 cfg0.N (ix4 b h d i) = ((kArgs m c).head b h).dv d i := by
  rw [← pointHead_eq] at hf ⊢
  have e := congrFun ((dats m 0 c).read_blk_arrAt_eq_flushed 13 (fun t t' _ _ hne => (cfg0.win 13).disjoint_blk fun h => hne ((idx_inj t t').2.2.2 h))
    cfg0.N (pt b h) (pt b h).isLt (flush_all _).2.2.2) (ix4 0 0 d i)
  have e' : (dats m 0 c).arrAt 13 cfg0.N (((cfg0.win 13).blk (pt b h)).view.emb (ix4 0 0 d i)) = (dats m 0 c).after 13 (pt b h) (ix4 0 0 d i) := e
  rw [after0_13] at e'
  rw [show ((cfg0.win 13).blk (pt b h)).view.emb (ix4 0 0 d i) = ix4 b h d i from
    emb_head (idx_head b h).2.2.2.2.2.2.2.2.1 d i _ fun _ => rfl] at e'
  exact e'.trans (point_dv hf d i)

/-- The score's gradients in the array that the kernel returns. -/
theorem array_dense (y : S1800x3x32x128.Idx) : (dats m 0 c).arrAt 10 cfg0.N y = (kArgs m c).dense y := by
  have hU : (y 0).val < 1800 := (y 0).isLt
  let b : Fin 5 := ⟨(y 0).val / 12 % 5, Nat.mod_lt _ (by decide)⟩
  let h : Fin 30 := ⟨(y 0).val / 60, by omega⟩
  let u : Fin 12 := ⟨(y 0).val % 12, Nat.mod_lt _ (by decide)⟩
  have e := congrFun ((dats m 0 c).read_blk_arrAt_eq_flushed 10 (fun t t' _ _ hne => (cfg0.win 10).disjoint_blk fun h => hne ((idx_inj t t').1 h))
    cfg0.N (pt b h) (pt b h).isLt (flush_all _).1) (ix4 u (y 1) (y 2) (y 3))
  have e' : (dats m 0 c).arrAt 10 cfg0.N (((cfg0.win 10).blk (pt b h)).view.emb (ix4 u (y 1) (y 2) (y 3)))
      = (dats m 0 c).after 10 (pt b h) (ix4 u (y 1) (y 2) (y 3)) := e
  rw [after0_10] at e'
  have hy : ix4 (unitOf b h u) (y 1) (y 2) (y 3) = y := by
    funext a; apply Fin.ext
    match a with
    | ⟨0, _⟩ => show ((y 0).val / 60 * 5 + (y 0).val / 12 % 5) * 12 + (y 0).val % 12 = (y 0).val; omega
    | ⟨1, _⟩ => rfl
    | ⟨2, _⟩ => rfl
    | ⟨3, _⟩ => rfl
  rw [show ((cfg0.win 10).blk (pt b h)).view.emb (ix4 u (y 1) (y 2) (y 3)) = ix4 (unitOf b h u) (y 1) (y 2) (y 3) from
    emb_unit (idx_head b h).2.2.2.2.2.2.2.2.2.2 u (y 1) (y 2) (y 3) _ fun _ => rfl, hy] at e'
  rw [e', point_dense, pointHead_eq]
  rfl

end Cert.Proof

end
-- ==== Proof.Final.lean ====
/- What the kernel returns: the gradients of every head, in the layout of its operands. -/
module

public import proofs.«01_k».proof.Proof.Array
public import proofs.«01_k».proof.Proof.Gen.KernelIdeal.Run
public import proofs.«01_k».proof.Proof.Gen.KernelIdeal.Read

@[expose] public section

noncomputable section

namespace Cert.Proof

open Cert.KernelIdeal Cert.KernelIdeal.Gen Idealize.ShloMosaic Idealize.ShloMosaic.TcCoe

variable (m : (ℓ : Loc nD τ sig) → Buf (Elt Ideal) ℓ) (c : Dev nD) (b : Fin 5) (h : Fin 30)

/-- The last transpose puts the element of a head, depth and row at its row, head and depth. -/
theorem transposed (x : Vec Ideal S5x30x96x384 .bf16) (d : Fin 96) (i : Fin 384) :
    transpose S5x384x30x96 [0, 3, 1, 2] x transposes_S5x30x96x384_S5x384x30x96_0_3_1_2 (ix4 b i h d) = x (ix4 b h d i) := by
  pointwise []

/-- q's gradient that the kernel returns. -/
theorem final_dq (hf : ((kArgs m c).head b h).Finite) (d : Fin 96) (i : Fin 384) :
    transpose S5x384x30x96 [0, 3, 1, 2] (Value.reg_main_v15_1 m c) transposes_S5x30x96x384_S5x384x30x96_0_3_1_2 (ix4 b i h d)
      = ((kArgs m c).head b h).dq d i :=
  (transposed b h _ d i).trans (array_dq m c b h hf d i)

/-- k's gradient that the kernel returns. -/
theorem final_dk (hf : ((kArgs m c).head b h).Finite) (d : Fin 96) (i : Fin 384) :
    transpose S5x384x30x96 [0, 3, 1, 2] (Value.reg_main_v15_2 m c) transposes_S5x30x96x384_S5x384x30x96_0_3_1_2 (ix4 b i h d)
      = ((kArgs m c).head b h).dk d i :=
  (transposed b h _ d i).trans (array_dk m c b h hf d i)

/-- v's gradient that the kernel returns. -/
theorem final_dv (hf : ((kArgs m c).head b h).Finite) (d : Fin 96) (i : Fin 384) :
    transpose S5x384x30x96 [0, 3, 1, 2] (Value.reg_main_v15_3 m c) transposes_S5x30x96x384_S5x384x30x96_0_3_1_2 (ix4 b i h d)
      = ((kArgs m c).head b h).dv d i :=
  (transposed b h _ d i).trans (array_dv m c b h hf d i)

end Cert.Proof

end
-- ==== Proof.Ref.lean ====
/- What the reference's result arrays hold after the run: at every head of every batch, the gradients of that head. -/
module

public import proofs.«01_k».proof.Proof.Args
public import proofs.«01_k».proof.Proof.Gen.ReferenceIdeal.Read
public import Idealize.ShloMosaic.Lib.Claim
public import Idealize.ShloMosaic.Lib.VecWindow
public import Idealize.ShloMosaic.Lib.WordArith

@[expose] public section

set_option maxRecDepth 16384

noncomputable section

namespace Cert.Proof

open Cert.ReferenceIdeal Cert.ReferenceIdeal.Gen Cert.ReferenceIdeal.Read Idealize.ShloMosaic Idealize.ShloMosaic.TcCoe

/-- The numbers that e4m3 codes stand for. -/
abbrev wide4 (x : Vec Ideal S5x384x30x96 .i8) : Vec Ideal S5x384x30x96 .f32 := fun y => e4m3 (x y)

/-- The numbers that e5m2 codes stand for. -/
abbrev wide5 (x : Vec Ideal S5x384x30x96 .i8) : Vec Ideal S5x384x30x96 .f32 := fun y => e5m2 (x y)

/-- Shifting a word right by 16 is the same on either unit. -/
theorem shrui_host (x : BitVec 32) : IntOp.shrui .host x 16#32 = IntOp.shrui .vector x 16#32 := by
  simp [IntOp.shrui]

/-- Two indices with the same coordinates are one. -/
theorem ix4_ext {n0 n1 n2 n3 : ℕ} {x x' : Fin n0} {y y' : Fin n1} {z z' : Fin n2} {u u' : Fin n3} (hx : x.val = x'.val)
    (hy : y.val = y'.val) (hz : z.val = z'.val) (hu : u.val = u'.val) : ix4 x y z u = ix4 x' y' z' u' := by
  rw [Fin.ext hx, Fin.ext hy, Fin.ext hz, Fin.ext hu]

variable (a : Args) (b : Fin 5) (h : Fin 30) (i j : Fin 384)

/-- How often an entry occurs. -/
theorem ref_count : val_main_v14 (F := Ideal) a.words (ix4 b h i j) = count (fun u k r l => a.words (ix4 (unitOf b h u) k r l)) i j := by
  pointwise [val_main_v14, val_main_v13, val_main_v12, val_main_v11, val_main_v10, val_main_v9, val_main_v8, val_main_c_0, val_main_v7,
    val_main_v6, val_main_c, val_main_v5]
  unfold count
  have hi := i.isLt
  by_cases h0 : i.val % 32 < 16
  · have h1 : i.val / 16 % 2 < 1 := by omega
    simp only [dif_pos h0, dif_pos h1]
    refine congrArg (fun y => IntOp.andi (a.words y) 65535#32) ?_
    refine ix4_ext ?_ rfl ?_ rfl
    · show h.val * 60 + b.val * 12 + i.val / 32 = (h.val * 5 + b.val) * 12 + i.val / 32; omega
    · show i.val % 16 = i.val % 32; omega
  · have h1 : ¬i.val / 16 % 2 < 1 := by omega
    simp only [dif_neg h0, dif_neg h1, shrui_host]
    refine congrArg (fun y => IntOp.shrui .vector (a.words y) 16#32) ?_
    refine ix4_ext ?_ rfl ?_ rfl
    · show h.val * 60 + b.val * 12 + i.val / 32 = (h.val * 5 + b.val) * 12 + i.val / 32; omega
    · show i.val % 16 = i.val % 32 - 16; omega

/-- The softmax probability. -/
theorem ref_prob : val_main_v28 (F := Ideal) a.qs a.ks a.lse (wide4 a.q) (wide4 a.k) (ix4 b h i j) = (a.head b h).prob i j := by
  pointwise [val_main_v28, val_main_v27, val_main_v26, val_main_v25, val_main_v24, val_main_v23, val_main_v22, val_main_v21, val_main_v20,
    val_main_v19, val_main_v18, val_main_v17, val_main_v16, val_main_cst]
  rfl

/-- The gradient of the probability. -/
theorem ref_dprob : val_main_v35 (F := Ideal) a.vs a.gs (wide4 a.v) (wide5 a.g) (ix4 b h i j) = (a.head b h).dprob i j := by
  pointwise [val_main_v35, val_main_v34, val_main_v33, val_main_v32, val_main_v31, val_main_v30, val_main_v29, val_main_v15]
  rfl

/-- The row's sum of the output's gradient times the output. -/
theorem ref_delta : val_main_v44 (F := Ideal) a.o a.gs (wide5 a.g) (ix4 b h i j) = (a.head b h).delta i := by
  pointwise [val_main_v44, val_main_v43, val_main_v42, val_main_v41, val_main_v40, val_main_v39, val_main_v38, val_main_v37, val_main_v36,
    val_main_cst_1]
  rfl

/-- The gradient of the score. -/
theorem ref_ds : val_main_v46 (F := Ideal) a.qs a.ks a.vs a.o a.lse a.gs (wide4 a.q) (wide4 a.k) (wide4 a.v) (wide5 a.g) (ix4 b h i j)
    = (a.head b h).ds i j := by
  rw [val_main_v46_apply, ref_prob, val_main_v45_apply, ref_dprob, ref_delta]
  rfl

/-- The counts times the gradient of the score. -/
theorem ref_cds : val_main_v57 (F := Ideal) a.qs a.ks a.vs a.o a.lse a.gs a.words (wide4 a.q) (wide4 a.k) (wide4 a.v) (wide5 a.g)
    (ix4 b h i j) = (a.head b h).mult i j * (a.head b h).ds i j := by
  rw [val_main_v57_apply, val_main_v53_apply, ref_count, val_main_v48_apply, val_main_v47_apply, ref_ds]
  rfl

/-- The counts times the gradient of the score, a second time. -/
theorem ref_cds' : val_main_v65 (F := Ideal) a.qs a.ks a.vs a.o a.lse a.gs a.words (wide4 a.q) (wide4 a.k) (wide4 a.v) (wide5 a.g)
    (ix4 b h i j) = (a.head b h).mult i j * (a.head b h).ds i j := by
  rw [val_main_v65_apply, val_main_v53_apply, ref_count, val_main_v48_apply, val_main_v47_apply, ref_ds]
  rfl

/-- The counts times the scaled probability. -/
theorem ref_cpd : val_main_v70 (F := Ideal) a.qs a.ks a.lse a.gs a.words (wide4 a.q) (wide4 a.k) (ix4 b h i j)
    = (a.head b h).mult i j * ((a.head b h).prob i j * (a.head b h).gs i) := by
  have hg : val_main_v49 (F := Ideal) a.gs (ix4 b h i j) = (a.head b h).gs i := by
    pointwise [val_main_v49, val_main_v15]
    rfl
  rw [val_main_v70_apply, val_main_v53_apply, ref_count, val_main_v52_apply, val_main_v51_apply, val_main_v50_apply, ref_prob, hg]
  rfl

/-- q's gradient. -/
theorem ref_dq (d : Fin 96) : val_main_v79 (F := Ideal) a.qs a.ks a.vs a.o a.lse a.gs a.words (wide4 a.q) (wide4 a.k) (wide4 a.v) (wide5 a.g)
    (ix4 b i h d) = (a.head b h).dq d i := by
  have hs := fun j => ref_cds a b h i j
  revert hs
  rw [val_main_v79_apply, val_main_v61_apply]
  unfold val_main_v59 val_main_v58
  generalize val_main_v57 (F := Ideal) a.qs a.ks a.vs a.o a.lse a.gs a.words (wide4 a.q) (wide4 a.k) (wide4 a.v) (wide5 a.g) = x
  intro hs
  pointwise [val_main_v60, val_main_v56, val_main_v55, val_main_v54, val_main_cst_2]
  simp only [hs]
  rfl

/-- k's gradient. -/
theorem ref_dk (d : Fin 96) : val_main_v80 (F := Ideal) a.qs a.ks a.vs a.o a.lse a.gs a.words (wide4 a.q) (wide4 a.k) (wide4 a.v) (wide5 a.g)
    (ix4 b j h d) = (a.head b h).dk d j := by
  have hs := fun i => ref_cds' a b h i j
  revert hs
  rw [val_main_v80_apply, val_main_v69_apply]
  unfold val_main_v67 val_main_v66
  generalize val_main_v65 (F := Ideal) a.qs a.ks a.vs a.o a.lse a.gs a.words (wide4 a.q) (wide4 a.k) (wide4 a.v) (wide5 a.g) = x
  intro hs
  pointwise [val_main_v68, val_main_v64, val_main_v63, val_main_v62, val_main_cst_3]
  simp only [hs]
  rfl

/-- v's gradient. -/
theorem ref_dv (d : Fin 96) : val_main_v81 (F := Ideal) a.qs a.ks a.lse a.gs a.words (wide4 a.q) (wide4 a.k) (wide5 a.g) (ix4 b j h d)
    = (a.head b h).dv d j := by
  have hs := fun i => ref_cpd a b h i j
  revert hs
  rw [val_main_v81_apply]
  unfold val_main_v72 val_main_v71
  generalize val_main_v70 (F := Ideal) a.qs a.ks a.lse a.gs a.words (wide4 a.q) (wide4 a.k) = x
  intro hs
  pointwise []
  simp only [hs]
  rfl

/-- The gradient of the score where there is an entry. -/
theorem ref_sparse : val_main_v75 (F := Ideal) a.qs a.ks a.vs a.o a.lse a.gs a.words (wide4 a.q) (wide4 a.k) (wide4 a.v) (wide5 a.g)
    (ix4 b h i j) = (a.head b h).dense i j := by
  rw [val_main_v75_apply, val_main_v74_apply, ref_count, ref_ds]
  have h0 : val_main_v73 (F := Ideal) (ix4 b h i j) = 0#32 := by
    pointwise [val_main_v73, val_main_c_4]
  have h1 : val_main_call0_v1 (F := Ideal) (ix4 b h i j) = (0 : EReal) := by
    pointwise [val_main_call0_v1, val_main_call0_v0, val_main_cst_5]
    exact Ideal.ofBits_zero_f32
  rw [h0, h1]
  unfold Head.dense
  have hc : (0 < (a.head b h).mult i j) ↔ IntOp.cmpi .sgt (count (fun u k r l => a.words (ix4 (unitOf b h u) k r l)) i j) 0#32 = 1#1 := by
    refine (countR_pos _ i j).trans ?_
    simp only [IntOp.cmpi, WordArith.ofBool_eq_one_iff, BitVec.slt_iff_toInt_lt]
    rfl
  by_cases hp : 0 < (a.head b h).mult i j
  · rw [if_pos hp, hc.mp hp, ValueIdx.select_one]
  · rw [if_neg hp, ValueIdx.eq_zero_of_ne_one (fun e => hp (hc.mpr e)), ValueIdx.select_zero]

/-- The array of the score's gradients. -/
theorem ref_dense (y : S1800x3x32x128.Idx) : val_main_v78 (F := Ideal) a.qs a.ks a.vs a.o a.lse a.gs a.words (wide4 a.q) (wide4 a.k)
    (wide4 a.v) (wide5 a.g) y = a.dense y := by
  have hs := fun b h i j => ref_sparse a b h i j
  revert hs
  unfold val_main_v78 val_main_v77 val_main_v76
  generalize val_main_v75 (F := Ideal) a.qs a.ks a.vs a.o a.lse a.gs a.words (wide4 a.q) (wide4 a.k) (wide4 a.v) (wide5 a.g) = x
  intro hs
  idx_vars y
  pointwise []
  simp only [hs]
  rfl

end Cert.Proof

end
-- ==== Proof.Widen.lean ====
/- What the reference's one call leaves in its result arrays: the numbers that the codes stand for. -/
module

public import proofs.«01_k».proof.Proof.Ref
public import proofs.«01_k».proof.Proof.Gen.ReferenceIdeal.Run
public import Idealize.ShloMosaic.Lib.Claim
public import Idealize.ShloMosaic.Lib.Pipeline.Value

@[expose] public section

set_option maxRecDepth 16384

noncomputable section

namespace Cert.Proof

open Cert.ReferenceIdeal Cert.ReferenceIdeal.Gen Idealize.ShloMosaic Idealize.ShloMosaic.TcCoe

variable (m : (ℓ : Loc nD τ sig) → Buf (Elt Ideal) ℓ) (c : Dev nD)

/-- An index of the whole array is the same index of the store's rectangle. -/
theorem emb_r0_0 (y : S5x384x30x96.Idx) : r0_0.emb y = y := by
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

/-- A store of the whole array leaves what was stored. -/
theorem canon_one (p : Vec Ideal S5x384x30x96 .f32) (y : S5x384x30x96.Idx) :
    View.canon (Val := Elt Ideal) [⟨r0_0, p⟩] y = p y := by
  refine View.canon_apply_of_pieces (Val := Elt Ideal) p _ ?_ y (cover0_4 p y)
  intro q hq
  simp only [List.mem_cons, List.mem_nil_iff, or_false] at hq
  subst hq
  intro x
  exact (congrArg p (emb_r0_0 x)).symm

/-- An index with the coordinates of another is it. -/
theorem emb_whole (y z : S5x384x30x96.Idx) (hz : ∀ a : Fin 4, (z a).val = 0 * (S5x384x30x96.size a) + 1 * (y a).val) : z = y := by
  funext a; apply Fin.ext
  rw [hz a]; omega

/-- The call's one point writes every result array back. -/
theorem flush_one : ∀ t : Fin cfg0.N, (cfg0.win 4).flush t = true ∧ (cfg0.win 5).flush t = true ∧ (cfg0.win 6).flush t = true
    ∧ (cfg0.win 7).flush t = true := by
  decide +kernel

/-- The numbers of q. -/
theorem widen_q (y : S5x384x30x96.Idx) : Value.reg_main_v4_0 m c y = e4m3 (m ((c : Thread nD τ).loc main_arg0) y) := by
  have e := (dats m 0 c).arrAt_emb_eq_flushed 4 (fun t t' _ _ h => absurd ((fin_N0 t).trans (fin_N0 t').symm) h) t0_0 (flush_one t0_0).1 y
  have e' : (dats m 0 c).arrAt 4 cfg0.N (((cfg0.win 4).blk t0_0).view.emb y) = (dats m 0 c).after 4 t0_0 y := e
  rw [show ((cfg0.win 4).blk t0_0).view.emb y = y from emb_whole y _ fun _ => rfl] at e'
  refine e'.trans ?_
  rw [after0_4]
  refine (canon_one _ y).trans ?_
  pointwise [k0_pay1]
  show V m c main_v0 (((cfg0.win 0).blk t0_0).view.emb y) = _
  rw [show ((cfg0.win 0).blk t0_0).view.emb y = y from emb_whole y _ fun _ => rfl]
  entry_read
  pointwise []
  rfl

/-- The numbers of k. -/
theorem widen_k (y : S5x384x30x96.Idx) : Value.reg_main_v4_1 m c y = e4m3 (m ((c : Thread nD τ).loc main_arg2) y) := by
  have e := (dats m 0 c).arrAt_emb_eq_flushed 5 (fun t t' _ _ h => absurd ((fin_N0 t).trans (fin_N0 t').symm) h) t0_0 (flush_one t0_0).2.1 y
  have e' : (dats m 0 c).arrAt 5 cfg0.N (((cfg0.win 5).blk t0_0).view.emb y) = (dats m 0 c).after 5 t0_0 y := e
  rw [show ((cfg0.win 5).blk t0_0).view.emb y = y from emb_whole y _ fun _ => rfl] at e'
  refine e'.trans ?_
  rw [after0_5]
  refine (canon_one _ y).trans ?_
  pointwise [k0_pay2]
  show V m c main_v1 (((cfg0.win 1).blk t0_0).view.emb y) = _
  rw [show ((cfg0.win 1).blk t0_0).view.emb y = y from emb_whole y _ fun _ => rfl]
  entry_read
  pointwise []
  rfl

/-- The numbers of v. -/
theorem widen_v (y : S5x384x30x96.Idx) : Value.reg_main_v4_2 m c y = e4m3 (m ((c : Thread nD τ).loc main_arg4) y) := by
  have e := (dats m 0 c).arrAt_emb_eq_flushed 6 (fun t t' _ _ h => absurd ((fin_N0 t).trans (fin_N0 t').symm) h) t0_0 (flush_one t0_0).2.2.1 y
  have e' : (dats m 0 c).arrAt 6 cfg0.N (((cfg0.win 6).blk t0_0).view.emb y) = (dats m 0 c).after 6 t0_0 y := e
  rw [show ((cfg0.win 6).blk t0_0).view.emb y = y from emb_whole y _ fun _ => rfl] at e'
  refine e'.trans ?_
  rw [after0_6]
  refine (canon_one _ y).trans ?_
  pointwise [k0_pay3]
  show V m c main_v2 (((cfg0.win 2).blk t0_0).view.emb y) = _
  rw [show ((cfg0.win 2).blk t0_0).view.emb y = y from emb_whole y _ fun _ => rfl]
  entry_read
  pointwise []
  rfl

/-- The numbers of the incoming gradient. -/
theorem widen_g (y : S5x384x30x96.Idx) : Value.reg_main_v4_3 m c y = e5m2 (m ((c : Thread nD τ).loc main_arg8) y) := by
  have e := (dats m 0 c).arrAt_emb_eq_flushed 7 (fun t t' _ _ h => absurd ((fin_N0 t).trans (fin_N0 t').symm) h) t0_0 (flush_one t0_0).2.2.2 y
  have e' : (dats m 0 c).arrAt 7 cfg0.N (((cfg0.win 7).blk t0_0).view.emb y) = (dats m 0 c).after 7 t0_0 y := e
  rw [show ((cfg0.win 7).blk t0_0).view.emb y = y from emb_whole y _ fun _ => rfl] at e'
  refine e'.trans ?_
  rw [after0_7]
  refine (canon_one _ y).trans ?_
  pointwise [k0_pay4]
  show V m c main_v3 (((cfg0.win 3).blk t0_0).view.emb y) = _
  rw [show ((cfg0.win 3).blk t0_0).view.emb y = y from emb_whole y _ fun _ => rfl]
  entry_read
  pointwise []
  rfl

/-- The reference's arguments. -/
def rArgs : Args where
  q := m ((c : Thread nD τ).loc main_arg0)
  qs := m ((c : Thread nD τ).loc main_arg1)
  k := m ((c : Thread nD τ).loc main_arg2)
  ks := m ((c : Thread nD τ).loc main_arg3)
  v := m ((c : Thread nD τ).loc main_arg4)
  vs := m ((c : Thread nD τ).loc main_arg5)
  o := m ((c : Thread nD τ).loc main_arg6)
  lse := m ((c : Thread nD τ).loc main_arg7)
  g := m ((c : Thread nD τ).loc main_arg8)
  gs := m ((c : Thread nD τ).loc main_arg9)
  words := m ((c : Thread nD τ).loc main_arg10)

/-- After the reference's call: the numbers of q. -/
theorem exit_q : Value.exitV m c (Proc.devRef .tc main_v4_0) = wide4 (rArgs m c).q :=
  (Value.exit_main_v4_0 m c).trans (funext (widen_q m c))
/-- After the reference's call: the numbers of k. -/
theorem exit_k : Value.exitV m c (Proc.devRef .tc main_v4_1) = wide4 (rArgs m c).k :=
  (Value.exit_main_v4_1 m c).trans (funext (widen_k m c))
/-- After the reference's call: the numbers of v. -/
theorem exit_v : Value.exitV m c (Proc.devRef .tc main_v4_2) = wide4 (rArgs m c).v :=
  (Value.exit_main_v4_2 m c).trans (funext (widen_v m c))
/-- After the reference's call: the numbers of the incoming gradient. -/
theorem exit_g : Value.exitV m c (Proc.devRef .tc main_v4_3) = wide5 (rArgs m c).g :=
  (Value.exit_main_v4_3 m c).trans (funext (widen_g m c))

/-- The reference's fourth result. -/
def refDense (V : Valuation τ sig (Elt Ideal)) : Vec Ideal S1800x3x32x128 .f32 :=
  Read.val_main_v78 (F := Ideal) (V (Proc.devRef .tc main_arg1)) (V (Proc.devRef .tc main_arg3)) (V (Proc.devRef .tc main_arg5))
    (V (Proc.devRef .tc main_arg6)) (V (Proc.devRef .tc main_arg7)) (V (Proc.devRef .tc main_arg9)) (V (Proc.devRef .tc main_arg10))
    (V (Proc.devRef .tc main_v4_0)) (V (Proc.devRef .tc main_v4_1)) (V (Proc.devRef .tc main_v4_2)) (V (Proc.devRef .tc main_v4_3))

/-- The reference's first result. -/
def refDq (V : Valuation τ sig (Elt Ideal)) : Vec Ideal S5x384x30x96 .bf16 :=
  Read.val_main_v79 (F := Ideal) (V (Proc.devRef .tc main_arg1)) (V (Proc.devRef .tc main_arg3)) (V (Proc.devRef .tc main_arg5))
    (V (Proc.devRef .tc main_arg6)) (V (Proc.devRef .tc main_arg7)) (V (Proc.devRef .tc main_arg9)) (V (Proc.devRef .tc main_arg10))
    (V (Proc.devRef .tc main_v4_0)) (V (Proc.devRef .tc main_v4_1)) (V (Proc.devRef .tc main_v4_2)) (V (Proc.devRef .tc main_v4_3))

/-- The reference's second result. -/
def refDk (V : Valuation τ sig (Elt Ideal)) : Vec Ideal S5x384x30x96 .bf16 :=
  Read.val_main_v80 (F := Ideal) (V (Proc.devRef .tc main_arg1)) (V (Proc.devRef .tc main_arg3)) (V (Proc.devRef .tc main_arg5))
    (V (Proc.devRef .tc main_arg6)) (V (Proc.devRef .tc main_arg7)) (V (Proc.devRef .tc main_arg9)) (V (Proc.devRef .tc main_arg10))
    (V (Proc.devRef .tc main_v4_0)) (V (Proc.devRef .tc main_v4_1)) (V (Proc.devRef .tc main_v4_2)) (V (Proc.devRef .tc main_v4_3))

/-- The reference's third result. -/
def refDv (V : Valuation τ sig (Elt Ideal)) : Vec Ideal S5x384x30x96 .bf16 :=
  Read.val_main_v81 (F := Ideal) (V (Proc.devRef .tc main_arg1)) (V (Proc.devRef .tc main_arg3))
    (V (Proc.devRef .tc main_arg7)) (V (Proc.devRef .tc main_arg9)) (V (Proc.devRef .tc main_arg10))
    (V (Proc.devRef .tc main_v4_0)) (V (Proc.devRef .tc main_v4_1)) (V (Proc.devRef .tc main_v4_3))

/-- The score's gradients that the reference returns. -/
theorem end_dense (y : S1800x3x32x128.Idx) : refDense (Value.exitV m c) y = (rArgs m c).dense y := by
  unfold refDense
  rw [exit_q, exit_k, exit_v, exit_g, Value.exit_main_arg1, Value.exit_main_arg3, Value.exit_main_arg5, Value.exit_main_arg6,
    Value.exit_main_arg7, Value.exit_main_arg9, Value.exit_main_arg10]
  exact ref_dense (rArgs m c) y

variable (b : Fin 5) (h : Fin 30) (d : Fin 96) (i : Fin 384)

/-- q's gradient that the reference returns. -/
theorem end_dq : refDq (Value.exitV m c) (ix4 b i h d) = ((rArgs m c).head b h).dq d i := by
  unfold refDq
  rw [exit_q, exit_k, exit_v, exit_g, Value.exit_main_arg1, Value.exit_main_arg3, Value.exit_main_arg5, Value.exit_main_arg6,
    Value.exit_main_arg7, Value.exit_main_arg9, Value.exit_main_arg10]
  exact ref_dq (rArgs m c) b h i d

/-- k's gradient that the reference returns. -/
theorem end_dk : refDk (Value.exitV m c) (ix4 b i h d) = ((rArgs m c).head b h).dk d i := by
  unfold refDk
  rw [exit_q, exit_k, exit_v, exit_g, Value.exit_main_arg1, Value.exit_main_arg3, Value.exit_main_arg5, Value.exit_main_arg6,
    Value.exit_main_arg7, Value.exit_main_arg9, Value.exit_main_arg10]
  exact ref_dk (rArgs m c) b h i d

/-- v's gradient that the reference returns. -/
theorem end_dv : refDv (Value.exitV m c) (ix4 b i h d) = ((rArgs m c).head b h).dv d i := by
  unfold refDv
  rw [exit_q, exit_k, exit_g, Value.exit_main_arg1, Value.exit_main_arg3, Value.exit_main_arg7, Value.exit_main_arg9, Value.exit_main_arg10]
  exact ref_dv (rArgs m c) b h i d

end Cert.Proof

end
-- ==== Proof.Pre.lean ====
/- Under the precondition every operand of every head is finite. -/
module

public import proofs.«01_k».proof.Pre_finite
public import proofs.«01_k».proof.Proof.Args
public import Idealize.ShloMosaic.Lib.WordArith

@[expose] public section

set_option maxRecDepth 16384

noncomputable section

namespace Cert.Proof

open Idealize.ShloMosaic

/-- An e4m3 code that is not a NaN stands for a real. -/
theorem e4m3_real (x : BitVec 8) (h0 : x ≠ 127#8) (h1 : x ≠ 255#8) : IsReal (e4m3 x) := by
  show IsReal (Ideal.e4m3fn x)
  have hx : ¬((x.extractLsb' 3 4).toNat = 15 ∧ (x.extractLsb' 0 3).toNat = 7) := by
    revert x; decide
  unfold Ideal.e4m3fn
  dsimp only
  rw [if_neg hx]
  split <;> exact ⟨_, rfl⟩

/-- An e5m2 code that is neither infinite nor a NaN stands for a real. -/
theorem e5m2_real (x : BitVec 8) (h : x.ult 124#8 = true ∨ (BitVec.ule 128#8 x = true ∧ x.ult 252#8 = true)) : IsReal (e5m2 x) := by
  refine ieee_real (e := 5) (m := 2) x ?_
  revert x; decide

/-- A number whose absolute value is below infinity is a real. -/
theorem real_of_abs (x : EReal)
    (h : FloatOps.cmpf (F := Ideal) (φ := .f32) .olt (FloatOps.absf (F := Ideal) (φ := .f32) x) (FloatOps.ofBits .f32 0x7F800000#32) = 1#1) : IsReal x := by
  have ht : (FloatOps.ofBits .f32 0x7F800000#32 : Ideal .f32) = (⊤ : EReal) := by
    show Ideal.ieee 8 23 0x7F800000#32 = ⊤
    unfold Ideal.ieee
    simp
  rw [ht] at h
  have h' : max x (-x) < (⊤ : EReal) := by
    exact of_decide_eq_true ((WordArith.ofBool_eq_one_iff _).mp h)
  induction x with
  | bot => exact absurd h' (by simp)
  | top => exact absurd h' (by simp)
  | coe r => exact ⟨r, rfl⟩

variable [Cert.Pre_finite.Facts]

variable (a : Args)

/-- What the precondition says: ten arrays, all ones. -/
def Args.Pre : Prop :=
  let f := Cert.Pre_finite.fn (F := Ideal) a.q a.qs a.k a.ks a.v a.vs a.o a.lse a.g a.gs a.words
  f.1 = (fun _ => 1#1) ∧ f.2.1 = (fun _ => 1#1) ∧ f.2.2.1 = (fun _ => 1#1) ∧ f.2.2.2.1 = (fun _ => 1#1) ∧ f.2.2.2.2.1 = (fun _ => 1#1)
    ∧ f.2.2.2.2.2.1 = (fun _ => 1#1) ∧ f.2.2.2.2.2.2.1 = (fun _ => 1#1) ∧ f.2.2.2.2.2.2.2.1 = (fun _ => 1#1)
    ∧ f.2.2.2.2.2.2.2.2.1 = (fun _ => 1#1) ∧ f.2.2.2.2.2.2.2.2.2 = (fun _ => 1#1)

/-- An e4m3 code that passes the precondition's two comparisons stands for a real. -/
theorem e4m3_of_pre (x : BitVec 8) (h : IntOp.andi (IntOp.cmpi .ne x 127#8) (IntOp.cmpi .ne x 255#8) = 1#1) : IsReal (e4m3 x) := by
  simp only [IntOp.cmpi, WordArith.andi_ofBool, WordArith.ofBool_eq_one_iff, Bool.and_eq_true, bne_iff_ne] at h
  exact e4m3_real x h.1 h.2

/-- An e5m2 code that passes the precondition's three comparisons stands for a real. -/
theorem e5m2_of_pre (x : BitVec 8)
    (h : IntOp.ori (IntOp.cmpi .ult x 124#8) (IntOp.andi (IntOp.cmpi .uge x 128#8) (IntOp.cmpi .ult x 252#8)) = 1#1) : IsReal (e5m2 x) := by
  simp only [IntOp.cmpi, WordArith.andi_ofBool, WordArith.ori_ofBool, WordArith.ofBool_eq_one_iff, Bool.and_eq_true, Bool.or_eq_true] at h
  exact e5m2_real x h

/-- Under the precondition every operand of every head is finite. -/
theorem Args.Pre.finite {a : Args} (h : a.Pre) (b : Fin 5) (n : Fin 30) : (a.head b n).Finite := by
  obtain ⟨hq, hk, hv, hg, hqs, hks, hvs, ho, hl, hgs⟩ := h
  exact {
    qs := real_of_abs _ (congrFun hqs (ix2 b n))
    ks := real_of_abs _ (congrFun hks (ix2 b n))
    vs := real_of_abs _ (congrFun hvs (ix2 b n))
    q := fun i d => e4m3_of_pre _ (congrFun hq (ix4 b i n d))
    k := fun i d => e4m3_of_pre _ (congrFun hk (ix4 b i n d))
    v := fun i d => e4m3_of_pre _ (congrFun hv (ix4 b i n d))
    g := fun i d => e5m2_of_pre _ (congrFun hg (ix4 b i n d))
    o := fun i d => real_of_abs _ (congrFun ho (ix4 b i n d))
    lse := fun i => real_of_abs _ (congrFun hl (ix3 b i n))
    gs := fun i => real_of_abs _ (congrFun hgs (ix2 b i))
    mult := countR_real _
    mult_nonneg := countR_nonneg _ }

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Run
public import proofs.«01_k».proof.Proof.Gen.KernelIdeal.Read
public import proofs.«01_k».proof.Proof.Gen.ReferenceIdeal.Read
public import proofs.«01_k».proof.Proof.Gen.ReferenceIdeal.Run
public import proofs.«01_k».proof.Proof.Final
public import proofs.«01_k».proof.Proof.Ref
public import proofs.«01_k».proof.Proof.Widen
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Two arrays that agree at every batch, row, head and depth are equal. -/
theorem rows_ext {f g : Vec Ideal ⟨4, ![5, 384, 30, 96]⟩ .bf16} (h : ∀ b i n d, f (ix4 b i n d) = g (ix4 b i n d)) : f = g := by
  funext y
  obtain ⟨b, i, n, d, rfl⟩ : ∃ b i n d, y = ix4 b i n d := ⟨y 0, y 1, y 2, y 3, by funext a; match a with
    | ⟨0, _⟩ => rfl | ⟨1, _⟩ => rfl | ⟨2, _⟩ => rfl | ⟨3, _⟩ => rfl⟩
  exact h b i n d

section

attribute [local instance] Cert.Kernel.Gen.facts Cert.KernelIdeal.Gen.facts Cert.ReferenceIdeal.Gen.facts Cert.Pre_finite.Gen.facts

/-- With finite operands the kernel and the reference return the same four arrays of extended reals. -/
theorem algebraic : Cert.algebraic_KernelIdeal_ReferenceIdeal_pre_finite := by
  intro m g m' g' hpre hargs
  have hA : ∀ c, rArgs m' c = kArgs m c := fun c => by
    obtain ⟨h0, h1, h2, h3, h4, h5, h6, h7, h8, h9, h10⟩ := hargs c
    unfold rArgs kArgs
    rw [h0, h1, h2, h3, h4, h5, h6, h7, h8, h9, h10]
  have hF : ∀ c b n, ((kArgs m c).head b n).Finite := fun c b n => Args.Pre.finite (a := kArgs m c) (hpre c) b n
  refine ⟨fun c => _, fun c => _, fun c => _, fun c => _, Cert.KernelIdeal.Value.run m g, ?_⟩
  refine (θ_run (Cert.ReferenceIdeal.defs (F := Ideal)) _ _).mono (fun r h c => ?_) (Cert.ReferenceIdeal.Value.run m' g')
  obtain ⟨h79, h80, h81, h78, hr⟩ := h c
  refine ⟨h79.trans ?_, h80.trans ?_, h81.trans ?_, h78.trans ?_, hr⟩
  · refine (Cert.ReferenceIdeal.Read.val_main_v79_eq (Cert.ReferenceIdeal.Value.exitV m' c)).trans (rows_ext fun b i n d => ?_)
    exact (end_dq m' c b n d i).trans ((congrArg (fun a => (Args.head a b n).dq d i) (hA c)).trans (final_dq m c b n (hF c b n) d i).symm)
  · refine (Cert.ReferenceIdeal.Read.val_main_v80_eq (Cert.ReferenceIdeal.Value.exitV m' c)).trans (rows_ext fun b i n d => ?_)
    exact (end_dk m' c b n d i).trans ((congrArg (fun a => (Args.head a b n).dk d i) (hA c)).trans (final_dk m c b n (hF c b n) d i).symm)
  · refine (Cert.ReferenceIdeal.Read.val_main_v81_eq (Cert.ReferenceIdeal.Value.exitV m' c)).trans (rows_ext fun b i n d => ?_)
    exact (end_dv m' c b n d i).trans ((congrArg (fun a => (Args.head a b n).dv d i) (hA c)).trans (final_dv m c b n (hF c b n) d i).symm)
  · refine (Cert.ReferenceIdeal.Read.val_main_v78_eq (Cert.ReferenceIdeal.Value.exitV m' c)).trans (funext fun y => ?_)
    exact (end_dense m' c y).trans ((congrArg (fun a => Args.dense a y) (hA c)).trans (array_dense m c y).symm)

end

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
